-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_finite [hPre_distinct_finite : Cert.Pre_distinct_finite.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_distinct_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_finite [hPre_distinct_finite : Cert.Pre_distinct_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_distinct_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_distinct_finite [hKernelIdeal : Cert.KernelIdeal.Facts] [hPre_distinct_finite : Cert.Pre_distinct_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_distinct_finite [hReferenceIdeal : Cert.ReferenceIdeal.Facts] [hPre_distinct_finite : Cert.Pre_distinct_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_distinct_finite [hKernelIdeal : Cert.KernelIdeal.Facts] [hReferenceIdeal : Cert.ReferenceIdeal.Facts] [hPre_distinct_finite : Cert.Pre_distinct_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_distinct_finite : Cert.Pre_distinct_finite.Facts),
    quiescent_Kernel (hKernel := hKernel)
    ∧ quiescent_KernelIdeal (hKernelIdeal := hKernelIdeal)
    ∧ quiescent_KernelIdeal_pre_distinct_finite (hKernelIdeal := hKernelIdeal) (hPre_distinct_finite := hPre_distinct_finite)
    ∧ quiescent_ReferenceIdeal (hReferenceIdeal := hReferenceIdeal)
    ∧ quiescent_ReferenceIdeal_pre_distinct_finite (hReferenceIdeal := hReferenceIdeal) (hPre_distinct_finite := hPre_distinct_finite)
    ∧ preserves_Kernel_KernelIdeal
    ∧ algebraic_KernelIdeal_ReferenceIdeal_pre_distinct_finite (hKernelIdeal := hKernelIdeal) (hReferenceIdeal := hReferenceIdeal) (hPre_distinct_finite := hPre_distinct_finite)
-- ==== Pre_distinct_finite.lean ====
abbrev S4x8192x3 : Shape := ⟨3, ![4, 8192, 3]⟩
abbrev S4x1024x3 : Shape := ⟨3, ![4, 1024, 3]⟩
abbrev S4x64x8192 : Shape := ⟨3, ![4, 64, 8192]⟩
abbrev S4x128x1024 : Shape := ⟨3, ![4, 128, 1024]⟩
abbrev S128x192 : Shape := ⟨2, ![128, 192]⟩
abbrev S128 : Shape := ⟨1, ![128]⟩
abbrev S_ : Shape := ⟨0, ![]⟩
abbrev S4x8192 : Shape := ⟨2, ![4, 8192]⟩
abbrev S4x1024 : Shape := ⟨2, ![4, 1024]⟩
abbrev S4x8192x1024 : Shape := ⟨3, ![4, 8192, 1024]⟩
abbrev S4x8192x1 : Shape := ⟨3, ![4, 8192, 1]⟩
abbrev S4x1x1024 : Shape := ⟨3, ![4, 1, 1024]⟩
abbrev S4x8192x4 : Shape := ⟨3, ![4, 8192, 4]⟩

class Facts : Prop where
  reducesTo_S4x8192x3_S4x8192_d2 : S4x8192x3.ReducesTo [2] S4x8192
  h_S_ : 0 < S_.numel
  reducesTo_S4x1024x3_S4x1024_d2 : S4x1024x3.ReducesTo [2] S4x1024
  bcast_S4x8192_S4x8192x1_0_1 : S4x8192.BroadcastsInDim S4x8192x1 (![0, 1] : Fin 2 → Fin S4x8192x1.rank)
  bcast_S4x1024_S4x1x1024_0_2 : S4x1024.BroadcastsInDim S4x1x1024 (![0, 2] : Fin 2 → Fin S4x1x1024.rank)
  bcast_S4x8192x1_S4x8192x1024_0_1_2 : S4x8192x1.BroadcastsInDim S4x8192x1024 (![0, 1, 2] : Fin 3 → Fin S4x8192x1024.rank)
  bcast_S4x1x1024_S4x8192x1024_0_1_2 : S4x1x1024.BroadcastsInDim S4x8192x1024 (![0, 1, 2] : Fin 3 → Fin S4x8192x1024.rank)
  bcast_S_S4x8192x1024 : S_.BroadcastsInDim S4x8192x1024 (![] : Fin 0 → Fin S4x8192x1024.rank)
  sliceFits_S4x8192x1024_S4x8192x4 : S4x8192x1024.Slices (fun _ => 0) S4x8192x4
  slices_S4x8192x4_S4x8192x3_0_0_0 : S4x8192x4.Slices ![0, 0, 0] S4x8192x3
  slices_S4x8192x4_S4x8192x3_0_0_1 : S4x8192x4.Slices ![0, 0, 1] S4x8192x3
  bcast_S_S4x64x8192 : S_.BroadcastsInDim S4x64x8192 (![] : Fin 0 → Fin S4x64x8192.rank)
  bcast_S_S4x128x1024 : S_.BroadcastsInDim S4x128x1024 (![] : Fin 0 → Fin S4x128x1024.rank)
  bcast_S_S128x192 : S_.BroadcastsInDim S128x192 (![] : Fin 0 → Fin S128x192.rank)
  bcast_S_S128 : S_.BroadcastsInDim S128 (![] : Fin 0 → Fin S128.rank)
  dot_S4x8192x3_S4x1024x3_S4x8192x1024_2_2_1_1_0_0_wf : DotDims.WF S4x8192x3 S4x1024x3 S4x8192x1024 [2] [2] [1] [1] [0] [0]

variable [Facts]

def dot_S4x8192x3_S4x1024x3_S4x8192x1024_2_2_1_1_0_0 : DotDims S4x8192x3 S4x1024x3 S4x8192x1024 where
  lhsContracting := [2]
  rhsContracting := [2]
  lhsNonContracting := [1]
  rhsNonContracting := [1]
  lhsBatch := [0]
  rhsBatch := [0]
  wf := dot_S4x8192x3_S4x1024x3_S4x8192x1024_2_2_1_1_0_0_wf
def fn_part1 {F : FTy → Type} [FloatOps F] (main_arg3 : FVec F S4x128x1024 .f32) (main_arg4 : FVec F S128x192 .f32) (main_arg5 : FVec F S128 .f32) (main_v16 : IVec S4x8192x3 1) (main_v17 : FVec F S4x64x8192 .f32) (main_cst_2 : FVec F S_ .f32) : IVec S4x8192x3 1 × IVec S4x64x8192 1 × IVec S4x128x1024 1 × IVec S128x192 1 × IVec S128 1 :=
  let main_v18 : FVec F S4x64x8192 .f32 := broadcastInDim S4x64x8192 ![] bcast_S_S4x64x8192 main_cst_2
  let main_v19 : IVec S4x64x8192 1 := cmpf .olt main_v17 main_v18
  let main_v20 : FVec F S4x128x1024 .f32 := Host.absf main_arg3
  let main_cst_3 : FVec F S_ .f32 := constant S_ .f32 0x7F800000#32
  let main_v21 : FVec F S4x128x1024 .f32 := broadcastInDim S4x128x1024 ![] bcast_S_S4x128x1024 main_cst_3
  let main_v22 : IVec S4x128x1024 1 := cmpf .olt main_v20 main_v21
  let main_v23 : FVec F S128x192 .f32 := Host.absf main_arg4
  let main_cst_4 : FVec F S_ .f32 := constant S_ .f32 0x7F800000#32
  let main_v24 : FVec F S128x192 .f32 := broadcastInDim S128x192 ![] bcast_S_S128x192 main_cst_4
  let main_v25 : IVec S128x192 1 := cmpf .olt main_v23 main_v24
  let main_v26 : FVec F S128 .f32 := Host.absf main_arg5
  let main_cst_5 : FVec F S_ .f32 := constant S_ .f32 0x7F800000#32
  let main_v27 : FVec F S128 .f32 := broadcastInDim S128 ![] bcast_S_S128 main_cst_5
  let main_v28 : IVec S128 1 := cmpf .olt main_v26 main_v27
  (main_v16, main_v19, main_v22, main_v25, main_v28)

def fn {F : FTy → Type} [FloatOps F] (main_arg0 : FVec F S4x8192x3 .f32) (main_arg1 : FVec F S4x1024x3 .f32) (main_arg2 : FVec F S4x64x8192 .f32) (main_arg3 : FVec F S4x128x1024 .f32) (main_arg4 : FVec F S128x192 .f32) (main_arg5 : FVec F S128 .f32) (main_arg6 : FVec F S128 .f32) : IVec S4x8192x3 1 × IVec S4x64x8192 1 × IVec S4x128x1024 1 × IVec S128x192 1 × IVec S128 1 :=
  let main_v0 : FVec F S4x8192x3 .f32 := mulf main_arg0 main_arg0
  let main_cst : FVec F S_ .f32 := constant S_ .f32 0x00000000#32
  let main_v1 : FVec F S4x8192 .f32 := (fun x v => Host.reduceAdd x v reducesTo_S4x8192x3_S4x8192_d2 h_S_) main_v0 main_cst
  let main_v2 : FVec F S4x1024x3 .f32 := mulf main_arg1 main_arg1
  let main_cst_0 : FVec F S_ .f32 := constant S_ .f32 0x00000000#32
  let main_v3 : FVec F S4x1024 .f32 := (fun x v => Host.reduceAdd x v reducesTo_S4x1024x3_S4x1024_d2 h_S_) main_v2 main_cst_0
  let main_v4 : FVec F S4x8192x1024 .f32 := (fun l r => Host.dotGeneral dot_S4x8192x3_S4x1024x3_S4x8192x1024_2_2_1_1_0_0 none l r) main_arg0 main_arg1
  let main_v5 : FVec F S4x8192x1 .f32 := broadcastInDim S4x8192x1 ![0, 1] bcast_S4x8192_S4x8192x1_0_1 main_v1
  let main_v6 : FVec F S4x1x1024 .f32 := broadcastInDim S4x1x1024 ![0, 2] bcast_S4x1024_S4x1x1024_0_2 main_v3
  let main_v7 : FVec F S4x8192x1024 .f32 := broadcastInDim S4x8192x1024 ![0, 1, 2] bcast_S4x8192x1_S4x8192x1024_0_1_2 main_v5
  let main_v8 : FVec F S4x8192x1024 .f32 := broadcastInDim S4x8192x1024 ![0, 1, 2] bcast_S4x1x1024_S4x8192x1024_0_1_2 main_v6
  let main_v9 : FVec F S4x8192x1024 .f32 := addf main_v7 main_v8
  let main_cst_1 : FVec F S_ .f32 := constant S_ .f32 0x40000000#32
  let main_v10 : FVec F S4x8192x1024 .f32 := broadcastInDim S4x8192x1024 ![] bcast_S_S4x8192x1024 main_cst_1
  let main_v11 : FVec F S4x8192x1024 .f32 := mulf main_v10 main_v4
  let main_v12 : FVec F S4x8192x1024 .f32 := subf main_v9 main_v11
  let main_v13 : FVec F S4x8192x1024 .f32 := Host.negf main_v12
  let main_values : FVec F S4x8192x4 .f32 := (fun x => (Host.topK S4x8192x4 2 (FloatOps.cmpfTotal .gt) x sliceFits_S4x8192x1024_S4x8192x4).1) main_v13
  let main_indices : IVec S4x8192x4 32 := (fun x => (Host.topK S4x8192x4 2 (FloatOps.cmpfTotal .gt) x sliceFits_S4x8192x1024_S4x8192x4).2) main_v13
  let main_v14 : FVec F S4x8192x3 .f32 := (extractStridedSlice S4x8192x3 ![0, 0, 0] · slices_S4x8192x4_S4x8192x3_0_0_0) main_values
  let main_v15 : FVec F S4x8192x3 .f32 := (extractStridedSlice S4x8192x3 ![0, 0, 1] · slices_S4x8192x4_S4x8192x3_0_0_1) main_values
  let main_v16 : IVec S4x8192x3 1 := cmpf .ogt main_v14 main_v15
  let main_v17 : FVec F S4x64x8192 .f32 := Host.absf main_arg2
  let main_cst_2 : FVec F S_ .f32 := constant S_ .f32 0x7F800000#32
  fn_part1 (F := F) main_arg3 main_arg4 main_arg5 main_v16 main_v17 main_cst_2
-- ==== Kernel.lean ====
abbrev S4x8192x3 : Shape := ⟨3, ![4, 8192, 3]⟩
abbrev S4x1024x3 : Shape := ⟨3, ![4, 1024, 3]⟩
abbrev S4x64x8192 : Shape := ⟨3, ![4, 64, 8192]⟩
abbrev S4x128x1024 : Shape := ⟨3, ![4, 128, 1024]⟩
abbrev S128x192 : Shape := ⟨2, ![128, 192]⟩
abbrev S128 : Shape := ⟨1, ![128]⟩
abbrev S4x3x8192 : Shape := ⟨3, ![4, 3, 8192]⟩
abbrev S4x128x8192 : Shape := ⟨3, ![4, 128, 8192]⟩
abbrev S4x128x1 : Shape := ⟨3, ![4, 128, 1]⟩
abbrev S1x3x4096 : Shape := ⟨3, ![1, 3, 4096]⟩
abbrev S1x1024x3 : Shape := ⟨3, ![1, 1024, 3]⟩
abbrev S1x64x4096 : Shape := ⟨3, ![1, 64, 4096]⟩
abbrev S1x128x1024 : Shape := ⟨3, ![1, 128, 1024]⟩
abbrev S1x128x4096 : Shape := ⟨3, ![1, 128, 4096]⟩
abbrev S1x128x1 : Shape := ⟨3, ![1, 128, 1]⟩
abbrev S3x4096 : Shape := ⟨2, ![3, 4096]⟩
abbrev S1024x3 : Shape := ⟨2, ![1024, 3]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩
abbrev S128x128 : Shape := ⟨2, ![128, 128]⟩
abbrev S128x64 : Shape := ⟨2, ![128, 64]⟩
abbrev S64x4096 : Shape := ⟨2, ![64, 4096]⟩
abbrev S128x1 : Shape := ⟨2, ![128, 1]⟩

abbrev nBuf : Space → Nat
  | .hbm => 14
  | .vmem => 23
  | .smem => 0
  | _ => 0

abbrev bufTy : (tb : Table) → Fin (tcTables nBuf tb) → BufTy
  | .hbm, ⟨0, _⟩ => ⟨S4x8192x3, .f32⟩
  | .hbm, ⟨1, _⟩ => ⟨S4x1024x3, .f32⟩
  | .hbm, ⟨2, _⟩ => ⟨S4x64x8192, .f32⟩
  | .hbm, ⟨3, _⟩ => ⟨S4x128x1024, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S4x3x8192, .f32⟩
  | .hbm, ⟨8, _⟩ => ⟨S4x128x8192, .bf16⟩
  | .hbm, ⟨9, _⟩ => ⟨S4x128x1, .f32⟩
  | .hbm, ⟨10, _⟩ => ⟨S4x128x1, .f32⟩
  | .hbm, ⟨11, _⟩ => ⟨S128x1, .f32⟩
  | .hbm, ⟨12, _⟩ => ⟨S128x1, .f32⟩
  | .hbm, ⟨13, _⟩ => ⟨S4x128x8192, .f32⟩
  | .local _ .vmem, ⟨0, _⟩ => ⟨S1x3x4096, .f32⟩
  | .local _ .vmem, ⟨1, _⟩ => ⟨S1x3x4096, .f32⟩
  | .local _ .vmem, ⟨2, _⟩ => ⟨S1x1024x3, .f32⟩
  | .local _ .vmem, ⟨3, _⟩ => ⟨S1x1024x3, .f32⟩
  | .local _ .vmem, ⟨4, _⟩ => ⟨S1x64x4096, .f32⟩
  | .local _ .vmem, ⟨5, _⟩ => ⟨S1x64x4096, .f32⟩
  | .local _ .vmem, ⟨6, _⟩ => ⟨S1x128x1024, .f32⟩
  | .local _ .vmem, ⟨7, _⟩ => ⟨S1x128x1024, .f32⟩
  | .local _ .vmem, ⟨8, _⟩ => ⟨S128x192, .f32⟩
  | .local _ .vmem, ⟨9, _⟩ => ⟨S1x128x4096, .bf16⟩
  | .local _ .vmem, ⟨10, _⟩ => ⟨S1x128x4096, .bf16⟩
  | .local _ .vmem, ⟨11, _⟩ => ⟨S1x128x1, .f32⟩
  | .local _ .vmem, ⟨12, _⟩ => ⟨S1x128x1, .f32⟩
  | .local _ .vmem, ⟨13, _⟩ => ⟨S1x128x1, .f32⟩
  | .local _ .vmem, ⟨14, _⟩ => ⟨S1x128x1, .f32⟩
  | .local _ .vmem, ⟨15, _⟩ => ⟨S1x128x4096, .bf16⟩
  | .local _ .vmem, ⟨16, _⟩ => ⟨S1x128x4096, .bf16⟩
  | .local _ .vmem, ⟨17, _⟩ => ⟨S4x128x1, .f32⟩
  | .local _ .vmem, ⟨18, _⟩ => ⟨S4x128x1, .f32⟩
  | .local _ .vmem, ⟨19, _⟩ => ⟨S128x1, .f32⟩
  | .local _ .vmem, ⟨20, _⟩ => ⟨S128x1, .f32⟩
  | .local _ .vmem, ⟨21, _⟩ => ⟨S1x128x4096, .f32⟩
  | .local _ .vmem, ⟨22, _⟩ => ⟨S1x128x4096, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4x128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4x128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S4x8192x3 : Shape := ⟨3, ![4, 8192, 3]⟩
abbrev S4x1024x3 : Shape := ⟨3, ![4, 1024, 3]⟩
abbrev S4x64x8192 : Shape := ⟨3, ![4, 64, 8192]⟩
abbrev S4x128x1024 : Shape := ⟨3, ![4, 128, 1024]⟩
abbrev S128x192 : Shape := ⟨2, ![128, 192]⟩
abbrev S128 : Shape := ⟨1, ![128]⟩
abbrev S_ : Shape := ⟨0, ![]⟩
abbrev S4x8192 : Shape := ⟨2, ![4, 8192]⟩
abbrev S4x1024 : Shape := ⟨2, ![4, 1024]⟩
abbrev S4x8192x1024 : Shape := ⟨3, ![4, 8192, 1024]⟩
abbrev S4x8192x1 : Shape := ⟨3, ![4, 8192, 1]⟩
abbrev S4x1x1024 : Shape := ⟨3, ![4, 1, 1024]⟩
abbrev S4x8192x3x1 : Shape := ⟨4, ![4, 8192, 3, 1]⟩
abbrev S1 : Shape := ⟨1, ![1]⟩
abbrev S1x1x1x1 : Shape := ⟨4, ![1, 1, 1, 1]⟩
abbrev S4x128x8192x3 : Shape := ⟨4, ![4, 128, 8192, 3]⟩
abbrev S4x8192x128 : Shape := ⟨3, ![4, 8192, 128]⟩
abbrev S4x128x8192 : Shape := ⟨3, ![4, 128, 8192]⟩
abbrev S4x192x8192 : Shape := ⟨3, ![4, 192, 8192]⟩
abbrev S1x128x1 : Shape := ⟨3, ![1, 128, 1]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x1024x3, .f32⟩
  | .hbm, ⟨2, _⟩ => ⟨S4x64x8192, .f32⟩
  | .hbm, ⟨3, _⟩ => ⟨S4x128x1024, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x1024x3, .f32⟩
  | .hbm, ⟨11, _⟩ => ⟨S_, .f32⟩
  | .hbm, ⟨12, _⟩ => ⟨S4x1024, .f32⟩
  | .hbm, ⟨13, _⟩ => ⟨S4x8192x1024, .f32⟩
  | .hbm, ⟨14, _⟩ => ⟨S4x8192x1, .f32⟩
  | .hbm, ⟨15, _⟩ => ⟨S4x1x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x3, .f32⟩
  | .hbm, ⟨25, _⟩ => ⟨S4x8192x3, .i32⟩
  | .hbm, ⟨26, _⟩ => ⟨S4x8192x3, .f32⟩
  | .hbm, ⟨27, _⟩ => ⟨S_, .f32⟩
  | .hbm, ⟨28, _⟩ => ⟨S4x8192x3, .f32⟩
  | .hbm, ⟨29, _⟩ => ⟨S4x8192x3, .f32⟩
  | .hbm, ⟨30, _⟩ => ⟨S4x8192x3, .f32⟩
  | .hbm, ⟨31, _⟩ => ⟨S_, .f32⟩
  | .hbm, ⟨32, _⟩ => ⟨S4x8192x3, .f32⟩
  | .hbm, ⟨33, _⟩ => ⟨S4x8192x3, .f32⟩
  | .hbm, ⟨34, _⟩ => ⟨S_, .f32⟩
  | .hbm, ⟨35, _⟩ => ⟨S4x8192x3, .f32⟩
  | .hbm, ⟨36, _⟩ => ⟨S4x8192x3, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x3, .f32⟩
  | .hbm, ⟨41, _⟩ => ⟨S4x8192x3, .f32⟩
  | .hbm, ⟨42, _⟩ => ⟨S_, .i32⟩
  | .hbm, ⟨43, _⟩ => ⟨S4x8192x3, .i32⟩
  | .hbm, ⟨44, _⟩ => ⟨S4x8192x3, .i1⟩
  | .hbm, ⟨45, _⟩ => ⟨S_, .i32⟩
  | .hbm, ⟨46, _⟩ => ⟨S4x8192x3, .i32⟩
  | .hbm, ⟨47, _⟩ => ⟨S4x8192x3, .i32⟩
  | .hbm, ⟨48, _⟩ => ⟨S4x8192x3, .i32⟩
  | .hbm, ⟨49, _⟩ => ⟨S4x8192x3x1, .i32⟩
  | .hbm, ⟨50, _⟩ => ⟨S1, .i32⟩
  | .hbm, ⟨51, _⟩ => ⟨S_, .i32⟩
  | .hbm, ⟨52, _⟩ => ⟨S4x8192x3x1, .i32⟩
  | .hbm, ⟨53, _⟩ => ⟨S4x8192x3x1, .i1⟩
  | .hbm, ⟨54, _⟩ => ⟨S1x1x1x1, .i32⟩
  | .hbm, ⟨55, _⟩ => ⟨S4x8192x3x1, .i32⟩
  | .hbm, ⟨56, _⟩ => ⟨S4x8192x3x1, .i1⟩
  | .hbm, ⟨57, _⟩ => ⟨S4x8192x3x1, .i1⟩
  | .hbm, ⟨58, _⟩ => ⟨S_, .i1⟩
  | .hbm, ⟨59, _⟩ => ⟨S4x8192x3, .i1⟩
  | .hbm, ⟨60, _⟩ => ⟨S4x128x8192x3, .f32⟩
  | .hbm, ⟨61, _⟩ => ⟨S4x128x8192x3, .i1⟩
  | .hbm, ⟨62, _⟩ => ⟨S_, .f32⟩
  | .hbm, ⟨63, _⟩ => ⟨S4x128x8192x3, .f32⟩
  | .hbm, ⟨64, _⟩ => ⟨S4x128x8192x3, .f32⟩
  | .hbm, ⟨65, _⟩ => ⟨S4x8192x128, .f32⟩
  | .hbm, ⟨66, _⟩ => ⟨S4x128x8192, .f32⟩
  | .hbm, ⟨67, _⟩ => ⟨S4x192x8192, .f32⟩
  | .hbm, ⟨68, _⟩ => ⟨S4x8192x128, .f32⟩
  | .hbm, ⟨69, _⟩ => ⟨S4x128x8192, .f32⟩
  | .hbm, ⟨70, _⟩ => ⟨S_, .f32⟩
  | .hbm, ⟨71, _⟩ => ⟨S128, .f32⟩
  | .hbm, ⟨72, _⟩ => ⟨S1x128x1, .f32⟩
  | .hbm, ⟨73, _⟩ => ⟨S_, .f32⟩
  | .hbm, ⟨74, _⟩ => ⟨S1x128x1, .f32⟩
  | .hbm, ⟨75, _⟩ => ⟨S1x128x1, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128x1, .f32⟩
  | .hbm, ⟨80, _⟩ => ⟨S_, .f32⟩
  | .hbm, ⟨81, _⟩ => ⟨S1x128x1, .f32⟩
  | .hbm, ⟨82, _⟩ => ⟨S1x128x1, .f32⟩
  | .hbm, ⟨83, _⟩ => ⟨S4x128x8192, .f32⟩
  | .hbm, ⟨84, _⟩ => ⟨S4x128x8192, .f32⟩
  | .hbm, ⟨85, _⟩ => ⟨S4x128x8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S128, .f32⟩
  | .hbm, ⟨91, _⟩ => ⟨S1x128x1, .f32⟩
  | .hbm, ⟨92, _⟩ => ⟨S1x128x1, .f32⟩
  | .hbm, ⟨93, _⟩ => ⟨S1x128x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S1x128x1, .f32⟩
  | .hbm, ⟨99, _⟩ => ⟨S1x128x1, .f32⟩
  | .hbm, ⟨100, _⟩ => ⟨S4x128x8192, .f32⟩
  | .hbm, ⟨101, _⟩ => ⟨S4x128x8192, .f32⟩
  | .hbm, ⟨102, _⟩ => ⟨S_, .f32⟩
  | .hbm, ⟨103, _⟩ => ⟨S1x128x1, .f32⟩
  | .hbm, ⟨104, _⟩ => ⟨S1x128x1, .f32⟩
  | .hbm, ⟨105, _⟩ => ⟨S1x128x1, .f32⟩
  | .hbm, ⟨106, _⟩ => ⟨S4x128x8192, .f32⟩
  | .hbm, ⟨107, _⟩ => ⟨S4x128x8192, .f32⟩
  | .hbm, ⟨108, _⟩ => ⟨S1x128x1, .f32⟩
  | .hbm, ⟨109, _⟩ => ⟨S4x128x8192, .f32⟩
  | .hbm, ⟨110, _⟩ => ⟨S4x128x8192, .f32⟩
  | .hbm, ⟨111, _⟩ => ⟨S1x128x1, .f32⟩
  | .hbm, ⟨112, _⟩ => ⟨S4x128x8192, .f32⟩
  | .hbm, ⟨113, _⟩ => ⟨S4x128x8192, .f32⟩
  | .hbm, ⟨114, _⟩ => ⟨S_, .f32⟩
  | .hbm, ⟨115, _⟩ => ⟨S4x128x8192, .f32⟩
  | .hbm, ⟨116, _⟩ => ⟨S4x128x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_6 : Ref sig .tc := ⟨.hbm, 70, rfl⟩
abbrev main_v32 : Ref sig .tc := ⟨.hbm, 71, rfl⟩
abbrev main_v33 : Ref sig .tc := ⟨.hbm, 72, rfl⟩
abbrev main_cst_7 : Ref sig .tc := ⟨.hbm, 73, rfl⟩
abbrev main_v34 : Ref sig .tc := ⟨.hbm, 74, rfl⟩
abbrev main_v35 : Ref sig .tc := ⟨.hbm, 75, rfl⟩
abbrev main_c : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_cst_3 : Ref sig .tc := ⟨.hbm, 94, rfl⟩
abbrev main_call1_v13 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_cst_8 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_cst_9 : Ref sig .tc := ⟨.hbm, 114, rfl⟩
abbrev main_v50 : Ref sig .tc := ⟨.hbm, 115, rfl⟩
abbrev main_v51 : Ref sig .tc := ⟨.hbm, 116, rfl⟩

abbrev nD : Nat := 1
abbrev τ : Topo := Topo.v7x

variable {F : FTy → Type} [FloatOps F]
-- ==== Proof.PreFacts.lean ====
/-
  The side conditions of the precondition's operations, each decided.
-/
module

public import proofs.«01_k».proof.Pre_distinct_finite

@[expose] public section

namespace Cert.Pre_distinct_finite.Side

open Idealize.ShloMosaic

/-- The precondition's side conditions hold. -/
instance facts : Cert.Pre_distinct_finite.Facts where
  reducesTo_S4x8192x3_S4x8192_d2 := by decide
  h_S_ := by decide
  reducesTo_S4x1024x3_S4x1024_d2 := by decide
  bcast_S4x8192_S4x8192x1_0_1 := by decide
  bcast_S4x1024_S4x1x1024_0_2 := by decide
  bcast_S4x8192x1_S4x8192x1024_0_1_2 := by decide
  bcast_S4x1x1024_S4x8192x1024_0_1_2 := by decide
  bcast_S_S4x8192x1024 := by decide
  sliceFits_S4x8192x1024_S4x8192x4 := by decide
  slices_S4x8192x4_S4x8192x3_0_0_0 := by decide
  slices_S4x8192x4_S4x8192x3_0_0_1 := by decide
  bcast_S_S4x64x8192 := by decide
  bcast_S_S4x128x1024 := by decide
  bcast_S_S128x192 := by decide
  bcast_S_S128 := by decide
  dot_S4x8192x3_S4x1024x3_S4x8192x1024_2_2_1_1_0_0_wf := by decide

end Cert.Pre_distinct_finite.Side

end
-- ==== Proof.KRun.lean ====
/-
  The kernel's run: every execution ends with the result buffer at the contents the generated boundary `W4` names, the
  arguments unchanged.
-/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution ends with the result at the last boundary's contents
    and the arguments as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.Spec.lean ====
/-
  The mathematics of the problem in plain terms, over the extended reals and plain finite index types: distances of the
  points, the three nearest by repeated minimum, their weights, the interpolated and mixed features, the batch statistics.
-/
module

public import Idealize.ShloMosaic.PureOps.Ideal

@[expose] public section

noncomputable section

open Idealize.ShloMosaic

namespace Interp

/-- The float constants of the two programs, as numbers: 2, 1e-8, 1e-5, 32768 and infinity. -/
abbrev two : EReal := Ideal.ofBits .f32 0x40000000#32
abbrev tiny : EReal := Ideal.ofBits .f32 0x322BCC77#32
abbrev guard : EReal := Ideal.ofBits .f32 0x3727C5AC#32
abbrev count : EReal := Ideal.ofBits .f32 0x47000000#32
abbrev inf : EReal := Ideal.ofBits .f32 0x7F800000#32

/-- The squared distance of two points, expanded as `|u|² + |k|² - 2 k·u`. -/
def dist (u k : Fin 3 → EReal) : EReal := ∑ x, u x * u x + ∑ x, k x * k x - two * ∑ x, k x * u x

/-- The least of the distances. -/
def low (D : Fin 1024 → EReal) : EReal := Finset.univ.fold min inf D

/-- The distances with every least one replaced by infinity. -/
def drop (D : Fin 1024 → EReal) : Fin 1024 → EReal := fun i => if D i = low D then inf else D i

/-- The reciprocal weight of a squared distance. -/
def recip (v : EReal) : EReal := Ideal.div 1 (Ideal.sqrt (max v 0) + tiny)

/-- The sum of the three reciprocal weights. -/
def total (D : Fin 1024 → EReal) : EReal := recip (low D) + recip (low (drop D)) + recip (low (drop (drop D)))

/-- The weight the known point `i` gets: its normalised reciprocal weight if it is one of the three nearest, else zero. -/
def pick (D : Fin 1024 → EReal) (i : Fin 1024) : EReal :=
  if D i = low D then recip (low D) * Ideal.div 1 (total D)
  else if drop D i = low (drop D) then recip (low (drop D)) * Ideal.div 1 (total D)
  else if drop (drop D) i = low (drop (drop D)) then recip (low (drop (drop D))) * Ideal.div 1 (total D)
  else 0

/-- One output of the linear layer: the weights' first 128 against the interpolated features, the last 64 against the
    point's own. -/
def mix (D : Fin 1024 → EReal) (f : Fin 128 → Fin 1024 → EReal) (u : Fin 64 → EReal) (w : Fin 192 → EReal) : EReal :=
  ∑ x : Fin 128, w ⟨x, by omega⟩ * ∑ i, f x i * pick D i + ∑ x : Fin 64, w ⟨128 + x, by omega⟩ * u x

/-- The mean of a channel from its sum. -/
def mean (s : EReal) : EReal := Ideal.div s count

/-- The factor of a channel: its gain over the root of its (guarded) variance, from its sum and its sum of squares. -/
def gain (s q g : EReal) : EReal := g * Ideal.rsqrt (mean q - mean s * mean s + guard)

/-- Normalisation as one multiplication and one addition, then the positive part. -/
def affine (s q g b x : EReal) : EReal := max (x * gain s q g + (b - mean s * gain s q g)) 0

end Interp

end
-- ==== Proof.KPay.lean ====
/-
  What the two kernel bodies compute, read at one index: each payload as the plain mathematics of `Spec`.
-/
module

public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Pay

open Cert.KernelIdeal Cert.KernelIdeal.Gen

variable (U : Vec Ideal S1x3x4096 .f32) (K : Vec Ideal S1x1024x3 .f32)

/-- The distances of point `n` of a block to the known points. -/
abbrev D (n : Fin 4096) : Fin 1024 → EReal := fun i => Interp.dist (fun d => U (ix3 0 d n)) (fun d => K (ix3 0 i d))

theorem pay7_at (i : Fin 1024) (n : Fin 4096) : k0_pay7 (F := Ideal) U K (ix2 i n) = D U K n i := by
  pointwise [k0_pay7, Interp.dist]

theorem low_at (x : FVec Ideal S1024x4096 .f32) (n : Fin 4096) :
    shapeCast S1x4096 (multiReduction .minimumf [0] S4096 x 0x7F800000#32 reduces_S1024x4096_S4096 (.inl rfl) rfl) shapeCasts_S4096_S1x4096 (ix2 0 n)
      = Interp.low fun i => x (ix2 i n) := by
  pointwise [Interp.low]

theorem mask_at (x : FVec Ideal S1024x4096 .f32) (v : FVec Ideal S1x4096 .f32) (i : Fin 1024) (n : Fin 4096) :
    select (cmpf .oeq x (broadcastTo S1024x4096 v broadcasts_S1x4096_S1024x4096)) (broadcast S1024x4096 (Scalar.ofBits .f32 0x7F800000#32)) x (ix2 i n)
      = if x (ix2 i n) = v (ix2 0 n) then Interp.inf else x (ix2 i n) := by
  pointwise

theorem pay8_at (n : Fin 4096) : k0_pay8 (F := Ideal) U K (ix2 0 n) = Interp.low (D U K n) :=
  (low_at (k0_pay7 (F := Ideal) U K) n).trans (congrArg _ (funext fun i => pay7_at U K i n))

theorem pay10_at (i : Fin 1024) (n : Fin 4096) : k0_pay10 (F := Ideal) U K (ix2 i n) = Interp.drop (D U K n) i := by
  refine (mask_at (k0_pay7 (F := Ideal) U K) (k0_pay8 (F := Ideal) U K) i n).trans ?_
  rw [pay7_at, pay8_at]; rfl

theorem pay11_at (n : Fin 4096) : k0_pay11 (F := Ideal) U K (ix2 0 n) = Interp.low (Interp.drop (D U K n)) :=
  (low_at (k0_pay10 (F := Ideal) U K) n).trans (congrArg _ (funext fun i => pay10_at U K i n))

theorem pay13_at (i : Fin 1024) (n : Fin 4096) : k0_pay13 (F := Ideal) U K (ix2 i n) = Interp.drop (Interp.drop (D U K n)) i := by
  refine (mask_at (k0_pay10 (F := Ideal) U K) (k0_pay11 (F := Ideal) U K) i n).trans ?_
  rw [pay10_at, pay11_at]; rfl

theorem pay14_at (n : Fin 4096) : k0_pay14 (F := Ideal) U K (ix2 0 n) = Interp.low (Interp.drop (Interp.drop (D U K n))) :=
  (low_at (k0_pay13 (F := Ideal) U K) n).trans (congrArg _ (funext fun i => pay13_at U K i n))

theorem root_at (v : FVec Ideal S1x4096 .f32) (n : Fin 4096) :
    addf (sqrt (maximumf v (broadcast S1x4096 (Scalar.ofBits .f32 0x00000000#32)))) (broadcast S1x4096 (Scalar.ofBits .f32 0x322BCC77#32)) (ix2 0 n)
      = Ideal.sqrt (max (v (ix2 0 n)) 0) + Interp.tiny := by
  pointwise

theorem pay16_at (n : Fin 4096) :
    k0_pay16 (F := Ideal) U K (ix2 0 n) = Ideal.sqrt (max (Interp.low (D U K n)) 0) + Interp.tiny :=
  (root_at (k0_pay8 (F := Ideal) U K) n).trans (by rw [pay8_at])

/-- The interpolation and the first part of the linear layer, over masks given as comparisons. -/
theorem pay17_gen (a b c : FVec Ideal S1024x4096 .f32) (a' b' c' v39 : FVec Ideal S1x4096 .f32)
    (f : Vec Ideal S1x128x1024 .f32) (w : Vec Ideal S128x192 .f32) (o : Fin 128) (n : Fin 4096) :
    k0_pay17 (F := Ideal) (cmpf .oeq a (broadcastTo S1024x4096 a' broadcasts_S1x4096_S1024x4096)) b'
        (cmpf .oeq b (broadcastTo S1024x4096 b' broadcasts_S1x4096_S1024x4096)) c'
        (cmpf .oeq c (broadcastTo S1024x4096 c' broadcasts_S1x4096_S1024x4096)) v39 (Scalar.ofBits .f32 0x3F800000#32) f w (ix2 o n)
      = ∑ x : Fin 128, w (ix2 o ⟨x, by omega⟩) * ∑ i : Fin 1024, f (ix3 0 x i) *
          (if a (ix2 i n) = a' (ix2 0 n) then Ideal.div 1 (v39 (ix2 0 n)) * Ideal.div 1 (Ideal.div 1 (v39 (ix2 0 n)) + Interp.recip (b' (ix2 0 n)) + Interp.recip (c' (ix2 0 n)))
           else if b (ix2 i n) = b' (ix2 0 n) then Interp.recip (b' (ix2 0 n)) * Ideal.div 1 (Ideal.div 1 (v39 (ix2 0 n)) + Interp.recip (b' (ix2 0 n)) + Interp.recip (c' (ix2 0 n)))
           else if c (ix2 i n) = c' (ix2 0 n) then Interp.recip (c' (ix2 0 n)) * Ideal.div 1 (Ideal.div 1 (v39 (ix2 0 n)) + Interp.recip (b' (ix2 0 n)) + Interp.recip (c' (ix2 0 n)))
           else 0) := by
  pointwise [k0_pay17, Interp.recip]

/-- One element of the linear layer's output block, from the block's loaded inputs. -/
theorem pay1_at (u : Vec Ideal S1x64x4096 .f32) (f : Vec Ideal S1x128x1024 .f32) (w : Vec Ideal S128x192 .f32) (o : Fin 128) (n : Fin 4096) :
    k0_pay1 (F := Ideal) (k0_pay17 (k0_pay9 U K) (k0_pay11 U K) (k0_pay12 U K) (k0_pay14 U K) (k0_pay15 U K) (k0_pay16 U K) (Scalar.ofBits .f32 0x3F800000#32) f w)
        (k0_pay18 w) (k0_pay19 u) (ix2 o n)
      = Interp.mix (D U K n) (fun x i => f (ix3 0 x i)) (fun x => u (ix3 0 x n)) (fun j => w (ix2 o j)) := by
  have h : ∀ A : FVec Ideal S128x4096 .f32, k0_pay1 (F := Ideal) A (k0_pay18 w) (k0_pay19 u) (ix2 o n)
      = A (ix2 o n) + ∑ x : Fin 64, w (ix2 o ⟨128 + x, by omega⟩) * u (ix3 0 x n) := by
    intro A; pointwise [k0_pay1, k0_pay18, k0_pay19]
  rw [h]
  refine congrArg (· + _) ?_
  refine (pay17_gen (k0_pay7 U K) (k0_pay10 U K) (k0_pay13 U K) (k0_pay8 U K) (k0_pay11 U K) (k0_pay14 U K) (k0_pay16 U K) f w o n).trans ?_
  refine Finset.sum_congr rfl fun x _ => congrArg _ (Finset.sum_congr rfl fun i _ => congrArg _ ?_)
  rw [pay7_at, pay8_at, pay10_at, pay11_at, pay13_at, pay14_at, pay16_at]
  rfl

/-- The stored block is the linear layer's output. -/
theorem pay2_at (A : FVec Ideal S128x4096 .f32) (B : FVec Ideal S128x64 .f32) (C : FVec Ideal S64x4096 .f32) (o : Fin 128) (n : Fin 4096) :
    k0_pay2 (F := Ideal) A B C (ix3 0 o n) = k0_pay1 (F := Ideal) A B C (ix2 o n) := by
  pointwise [k0_pay2]

theorem pay3_at (o : Fin 128) : k0_pay3 (F := Ideal) (ix3 0 o 0) = 0 := by
  pointwise [k0_pay3]

theorem pay4_at (o : Fin 128) : k0_pay4 (F := Ideal) (ix3 0 o 0) = 0 := by
  pointwise [k0_pay4]

/-- The running sum gains the block's row sum. -/
theorem pay5_at (A : FVec Ideal S128x4096 .f32) (B : FVec Ideal S128x64 .f32) (C : FVec Ideal S64x4096 .f32) (s : Vec Ideal S1x128x1 .f32) (o : Fin 128) :
    k0_pay5 (F := Ideal) A B C s (ix3 0 o 0) = s (ix3 0 o 0) + ∑ n : Fin 4096, k0_pay1 (F := Ideal) A B C (ix2 o n) := by
  pointwise [k0_pay5]

/-- The running sum of squares gains the block's row sum of squares. -/
theorem pay6_at (A : FVec Ideal S128x4096 .f32) (B : FVec Ideal S128x64 .f32) (C : FVec Ideal S64x4096 .f32) (s : Vec Ideal S1x128x1 .f32) (o : Fin 128) :
    k0_pay6 (F := Ideal) A B C s (ix3 0 o 0)
      = s (ix3 0 o 0) + ∑ n : Fin 4096, k0_pay1 (F := Ideal) A B C (ix2 o n) * k0_pay1 (F := Ideal) A B C (ix2 o n) := by
  pointwise [k0_pay6]

/-- One element of the second kernel's output block. -/
theorem norm_at (s q : Vec Ideal S4x128x1 .f32) (g b : Vec Ideal S128x1 .f32) (x : Vec Ideal S1x128x4096 .bf16) (o : Fin 128) (n : Fin 4096) :
    k1_pay1 (F := Ideal) s q g b x (ix3 0 o n)
      = Interp.affine (∑ j : Fin 4, s (ix3 j o 0)) (∑ j : Fin 4, q (ix3 j o 0)) (g (ix2 o 0)) (b (ix2 o 0)) (x (ix3 0 o n)) := by
  pointwise [k1_pay1, Interp.affine, Interp.gain, Interp.mean]

end Cert.KernelIdeal.Pay

end
-- ==== Proof.KValue.lean ====
/-
  What the two kernel regions leave in their output arrays, as functions of the arrays they are entered with.
-/
module

public import proofs.«01_k».proof.Proof.Gen.KernelIdeal.Frame
public import proofs.«01_k».proof.Proof.KPay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The linear layer's output for batch `b`, channel `o`, point `n`, from the five arrays. -/
def layer (u : FVec Ideal S4x3x8192 .f32) (k : FVec Ideal S4x1024x3 .f32) (p : FVec Ideal S4x64x8192 .f32)
    (f : FVec Ideal S4x128x1024 .f32) (w : FVec Ideal S128x192 .f32) (b : Fin 4) (o : Fin 128) (n : Fin 8192) : EReal :=
  Interp.mix (fun i => Interp.dist (fun d => u (ix3 b d n)) (fun d => k (ix3 b i d))) (fun x i => f (ix3 b x i))
    (fun x => p (ix3 b x n)) (fun j => w (ix2 o j))

variable (V : (c : Dev nD) → (b : Ref sig .tc) → Buf (Elt Ideal) ((c : Thread nD τ).loc b))

/-- The linear layer's output from the first region's entry contents. -/
abbrev entry (c : Dev nD) : Fin 4 → Fin 128 → Fin 8192 → EReal :=
  layer (V c main_v0) (V c main_arg1) (V c main_arg2) (V c main_arg3) (V c main_arg4)

/-- The block index of every window of the first region at every point. -/
theorem idx0 : ∀ t : Fin cfg0.N, win0_0.index t = ![t.val / 2, 0, t.val % 2] ∧ win0_1.index t = ![t.val / 2, 0, 0]
    ∧ win0_2.index t = ![t.val / 2, 0, t.val % 2] ∧ win0_3.index t = ![t.val / 2, 0, 0] ∧ win0_4.index t = ![0, 0]
    ∧ win0_5.index t = ![t.val / 2, 0, t.val % 2] ∧ win0_6.index t = ![t.val / 2, 0, 0] ∧ win0_7.index t = ![t.val / 2, 0, 0]
    ∧ t.val / 2 < 4 :=
  (by decide +kernel : ∀ t : Fin grid0.N, _)

/-- The block index of every window of the second region at every point. -/
theorem idx1 : ∀ t : Fin cfg1.N, win1_0.index t = ![t.val / 2, 0, t.val % 2] ∧ win1_1.index t = ![0, 0, 0]
    ∧ win1_2.index t = ![0, 0, 0] ∧ win1_3.index t = ![0, 0] ∧ win1_4.index t = ![0, 0]
    ∧ win1_5.index t = ![t.val / 2, 0, t.val % 2] ∧ t.val / 2 < 4 :=
  (by decide +kernel : ∀ t : Fin grid1.N, _)

/-- The linear layer's output inside the block of point `t`. -/
theorem layer_block (c : Dev nD) (t : Fin cfg0.N) (o : Fin 128) (n : Fin 4096) (ht : t.val / 2 < 4) (hn : t.val % 2 * 4096 + n.val < 8192) :
    Interp.mix (Pay.D (iblk0 V c 0 t) (iblk0 V c 1 t) n) (fun x i => (iblk0 V c 3 t : Vec Ideal S1x128x1024 .f32) (ix3 0 x i))
        (fun x => (iblk0 V c 2 t : Vec Ideal S1x64x4096 .f32) (ix3 0 x n)) (fun j => (iblk0 V c 4 t : Vec Ideal S128x192 .f32) (ix2 o j))
      = entry V c ⟨t.val / 2, ht⟩ o ⟨t.val % 2 * 4096 + n.val, hn⟩ := by
  have h0 : ∀ d : Fin 3, (iblk0 V c 0 t : Vec Ideal S1x3x4096 .f32) (ix3 0 d n)
      = (V c main_v0 : FVec Ideal S4x3x8192 .f32) (ix3 ⟨t.val / 2, ht⟩ d ⟨t.val % 2 * 4096 + n.val, hn⟩) := by
    intro d; blk_ext [iblk0, idx0 t]
  have h1 : ∀ (i : Fin 1024) (d : Fin 3), (iblk0 V c 1 t : Vec Ideal S1x1024x3 .f32) (ix3 0 i d)
      = (V c main_arg1 : FVec Ideal S4x1024x3 .f32) (ix3 ⟨t.val / 2, ht⟩ i d) := by
    intro i d; blk_ext [iblk0, idx0 t]
  have h2 : ∀ x : Fin 64, (iblk0 V c 2 t : Vec Ideal S1x64x4096 .f32) (ix3 0 x n)
      = (V c main_arg2 : FVec Ideal S4x64x8192 .f32) (ix3 ⟨t.val / 2, ht⟩ x ⟨t.val % 2 * 4096 + n.val, hn⟩) := by
    intro x; blk_ext [iblk0, idx0 t]
  have h3 : ∀ (x : Fin 128) (i : Fin 1024), (iblk0 V c 3 t : Vec Ideal S1x128x1024 .f32) (ix3 0 x i)
      = (V c main_arg3 : FVec Ideal S4x128x1024 .f32) (ix3 ⟨t.val / 2, ht⟩ x i) := by
    intro x i; blk_ext [iblk0, idx0 t]
  have h4 : ∀ j : Fin 192, (iblk0 V c 4 t : Vec Ideal S128x192 .f32) (ix2 o j)
      = (V c main_arg4 : FVec Ideal S128x192 .f32) (ix2 o j) := by
    intro j; blk_ext [iblk0, idx0 t]
  unfold entry layer Pay.D
  simp only [h0, h1, h2, h3, h4]

/-- One stored element of the linear layer's output block of point `t`. -/
theorem point (c : Dev nD) (t : Fin cfg0.N) (o : Fin 128) (n : Fin 4096) (ht : t.val / 2 < 4) (hn : t.val % 2 * 4096 + n.val < 8192) :
    k0_pay1 (F := Ideal) (k0_pay17 (k0_pay9 (iblk0 V c 0 t) (iblk0 V c 1 t)) (k0_pay11 (iblk0 V c 0 t) (iblk0 V c 1 t))
        (k0_pay12 (iblk0 V c 0 t) (iblk0 V c 1 t)) (k0_pay14 (iblk0 V c 0 t) (iblk0 V c 1 t))
        (k0_pay15 (iblk0 V c 0 t) (iblk0 V c 1 t)) (k0_pay16 (iblk0 V c 0 t) (iblk0 V c 1 t))
        (Scalar.ofBits .f32 0x3F800000#32) (iblk0 V c 3 t) (iblk0 V c 4 t))
      (k0_pay18 (iblk0 V c 4 t)) (k0_pay19 (iblk0 V c 2 t)) (ix2 o n)
      = entry V c ⟨t.val / 2, ht⟩ o ⟨t.val % 2 * 4096 + n.val, hn⟩ :=
  (Pay.pay1_at _ _ _ _ _ o n).trans (layer_block V c t o n ht hn)

/-- An index of a block with one leading unit axis. -/
theorem ix_block (y : S1x128x4096.Idx) : y = ix3 0 (y 1) (y 2) := by
  rw [eq_ix3 y]; idx_ext

/-- An index of a block with two unit axes. -/
theorem ix_row (y : S1x128x1.Idx) : y = ix3 0 (y 1) 0 := by
  rw [eq_ix3 y]; idx_ext

theorem entry_congr (c : Dev nD) {b b' : Fin 4} {o o' : Fin 128} {n n' : Fin 8192} (hb : b.val = b'.val) (ho : o.val = o'.val) (hn : n.val = n'.val) :
    entry V c b o n = entry V c b' o' n' := by
  rw [Fin.ext hb, Fin.ext ho, Fin.ext hn]

/-- The first region's large output: the linear layer's output everywhere. -/
theorem final0_5 (c : Dev nD) : (dat0 V c).arrAt 5 cfg0.N
    = (fun j => entry V c (j 0) (j 1) (j 2) : FVec Ideal S4x128x8192 .bf16) := by
  refine (dat0 V c).arrAt_eq_of_covers 5 _ (by decide +kernel) fun t hf y => ?_
  have key : ∀ (y : S1x128x4096.Idx) (ht : t.val / 2 < 4) (hn : t.val % 2 * 4096 + (y 2).val < 8192), _ :=
    fun y ht hn => (congrArg _ (ix_block y)).trans ((Pay.pay2_at _ _ _ (y 1) (y 2)).trans (point V c t (y 1) (y 2) ht hn))
  have ht := (idx0 t).2.2.2.2.2.2.2.2
  have hy : (y 2 : ℕ) < 4096 := (y 2).isLt
  blk_simp
  rw [after0_5]
  by_cases h : t.val % 2 = 0
  · rw [outsAt0_A V c t h]
    frame_out
    refine (key y ht (by omega)).trans (entry_congr V c ?_ ?_ ?_) <;> blk_simp [idx0 t] <;> omega
  · rw [outsAt0_B V c t h]
    frame_out
    refine (key y ht (by omega)).trans (entry_congr V c ?_ ?_ ?_) <;> blk_simp [idx0 t] <;> omega

/-- What point `t` adds to its batch's channel sums. -/
theorem part6 (c : Dev nD) (t : Fin cfg0.N) (s : Vec Ideal S1x128x1 .f32) (j : S1x128x1.Idx) :
    k0_pay5 (F := Ideal) (k0_pay17 (k0_pay9 (iblk0 V c 0 t) (iblk0 V c 1 t)) (k0_pay11 (iblk0 V c 0 t) (iblk0 V c 1 t))
        (k0_pay12 (iblk0 V c 0 t) (iblk0 V c 1 t)) (k0_pay14 (iblk0 V c 0 t) (iblk0 V c 1 t))
        (k0_pay15 (iblk0 V c 0 t) (iblk0 V c 1 t)) (k0_pay16 (iblk0 V c 0 t) (iblk0 V c 1 t))
        (Scalar.ofBits .f32 0x3F800000#32) (iblk0 V c 3 t) (iblk0 V c 4 t))
      (k0_pay18 (iblk0 V c 4 t)) (k0_pay19 (iblk0 V c 2 t)) s j
      = s j + ∑ n : Fin 4096, entry V c ⟨t.val / 2, (idx0 t).2.2.2.2.2.2.2.2⟩ (j 1) ⟨t.val % 2 * 4096 + n.val, by omega⟩ := by
  rw [ix_row j]
  refine (Pay.pay5_at _ _ _ s (j 1)).trans (congrArg _ ?_)
  exact Finset.sum_congr rfl fun n _ => point V c t (j 1) n _ _

/-- What point `t` adds to its batch's channel sums of squares. -/
theorem part7 (c : Dev nD) (t : Fin cfg0.N) (s : Vec Ideal S1x128x1 .f32) (j : S1x128x1.Idx) :
    k0_pay6 (F := Ideal) (k0_pay17 (k0_pay9 (iblk0 V c 0 t) (iblk0 V c 1 t)) (k0_pay11 (iblk0 V c 0 t) (iblk0 V c 1 t))
        (k0_pay12 (iblk0 V c 0 t) (iblk0 V c 1 t)) (k0_pay14 (iblk0 V c 0 t) (iblk0 V c 1 t))
        (k0_pay15 (iblk0 V c 0 t) (iblk0 V c 1 t)) (k0_pay16 (iblk0 V c 0 t) (iblk0 V c 1 t))
        (Scalar.ofBits .f32 0x3F800000#32) (iblk0 V c 3 t) (iblk0 V c 4 t))
      (k0_pay18 (iblk0 V c 4 t)) (k0_pay19 (iblk0 V c 2 t)) s j
      = s j + ∑ n : Fin 4096, entry V c ⟨t.val / 2, (idx0 t).2.2.2.2.2.2.2.2⟩ (j 1) ⟨t.val % 2 * 4096 + n.val, by omega⟩
          * entry V c ⟨t.val / 2, (idx0 t).2.2.2.2.2.2.2.2⟩ (j 1) ⟨t.val % 2 * 4096 + n.val, by omega⟩ := by
  rw [ix_row j]
  refine (Pay.pay6_at _ _ _ s (j 1)).trans (congrArg _ ?_)
  exact Finset.sum_congr rfl fun n _ => by rw [point V c t (j 1) n (idx0 t).2.2.2.2.2.2.2.2 (by omega)]; rfl

theorem zero6 (j : S1x128x1.Idx) : k0_pay3 (F := Ideal) j = 0 := by
  rw [ix_row j]; exact Pay.pay3_at (j 1)

theorem zero7 (j : S1x128x1.Idx) : k0_pay4 (F := Ideal) j = 0 := by
  rw [ix_row j]; exact Pay.pay4_at (j 1)

/-- The first region's second output: every channel's sum over the points of a batch. -/
theorem final0_6 (c : Dev nD) : (dat0 V c).arrAt 6 cfg0.N
    = (fun j => ∑ n : Fin 8192, entry V c (j 0) (j 1) n : FVec Ideal S4x128x1 .f32) := by
  refine (dat0 V c).arrAt_eq_of_covers 6 _ (by decide +kernel) fun t hf y => ?_
  have ht := (idx0 t).2.2.2.2.2.2.2.2
  blk_simp
  rw [after0_6, Pipeline.eq_sum_fin_of_reset_step_apply_of_flush (fun n h => (outsAt0 V c n h).2.1) 2 (fun _ => 0) (fun p j => ∑ n : Fin 4096, entry V c ⟨p.val / 2, (idx0 p).2.2.2.2.2.2.2.2⟩ (j 1) ⟨p.val % 2 * 4096 + n.val, by omega⟩)
    (fun t h j => by rw [outsAt0_A V c t h]; frame_out; exact (part6 V c t _ j).trans (by rw [zero6 j]))
    (fun t h j => by rw [outsAt0_B V c t h]; frame_out; exact part6 V c t _ j)
    t ((flush0_6 t).mp hf) _, zero_add]
  refine Fin.sum_mul_add_congr fun s k hl => entry_congr V c ?_ ?_ ?_
  · blk_simp [idx0 t]; have := s.isLt; have : (y 0 : ℕ) < 1 := (y 0).isLt; dsimp only; omega
  · blk_simp [idx0 t]
  · show (2 * (t.val / 2) + s.val) % 2 * 4096 + k.val = s.val * 4096 + k.val; have := s.isLt; omega

/-- The first region's third output: every channel's sum of squares over the points of a batch. -/
theorem final0_7 (c : Dev nD) : (dat0 V c).arrAt 7 cfg0.N
    = (fun j => ∑ n : Fin 8192, entry V c (j 0) (j 1) n * entry V c (j 0) (j 1) n : FVec Ideal S4x128x1 .f32) := by
  refine (dat0 V c).arrAt_eq_of_covers 7 _ (by decide +kernel) fun t hf y => ?_
  have ht := (idx0 t).2.2.2.2.2.2.2.2
  blk_simp
  rw [after0_7, Pipeline.eq_sum_fin_of_reset_step_apply_of_flush (fun n h => (outsAt0 V c n h).2.2) 2 (fun _ => 0) (fun p j => ∑ n : Fin 4096, entry V c ⟨p.val / 2, (idx0 p).2.2.2.2.2.2.2.2⟩ (j 1) ⟨p.val % 2 * 4096 + n.val, by omega⟩ * entry V c ⟨p.val / 2, (idx0 p).2.2.2.2.2.2.2.2⟩ (j 1) ⟨p.val % 2 * 4096 + n.val, by omega⟩)
    (fun t h j => by rw [outsAt0_A V c t h]; frame_out; exact (part7 V c t _ j).trans (by rw [zero7 j]))
    (fun t h j => by rw [outsAt0_B V c t h]; frame_out; exact part7 V c t _ j)
    t ((flush0_7 t).mp hf) _, zero_add]
  refine Fin.sum_mul_add_congr fun s k hl => ?_
  refine congrArg (fun z : EReal => z * z) (entry_congr V c ?_ ?_ ?_)
  all_goals first
    | (blk_simp [idx0 t]; have := s.isLt; have : (y 0 : ℕ) < 1 := (y 0).isLt; dsimp only; omega)
    | (show (2 * (t.val / 2) + s.val) % 2 * 4096 + k.val = s.val * 4096 + k.val; have := s.isLt; omega)
    | (blk_simp [idx0 t]; done)

/-- The second region's output: every element normalised with its channel's sums over all batches. -/
theorem final1_5 (c : Dev nD) : (dat1 V c).arrAt 5 cfg1.N
    = (fun j => Interp.affine (∑ b : Fin 4, (V c main_v1_1 : FVec Ideal S4x128x1 .f32) (ix3 b (j 1) 0))
        (∑ b : Fin 4, (V c main_v1_2 : FVec Ideal S4x128x1 .f32) (ix3 b (j 1) 0)) ((V c main_v2 : FVec Ideal S128x1 .f32) (ix2 (j 1) 0))
        ((V c main_v3 : FVec Ideal S128x1 .f32) (ix2 (j 1) 0)) ((V c main_v1_0 : FVec Ideal S4x128x8192 .bf16) j) : FVec Ideal S4x128x8192 .f32) := by
  refine (dat1 V c).arrAt_eq_of_covers 5 _ (by decide +kernel) fun t hf y => ?_
  have key : ∀ (y : S1x128x4096.Idx), _ :=
    fun y => (congrArg _ (ix_block y)).trans (Pay.norm_at (iblk1 V c 1 t) (iblk1 V c 2 t) (iblk1 V c 3 t) (iblk1 V c 4 t) (iblk1 V c 0 t) (y 1) (y 2))
  blk_simp
  rw [after1_5]
  frame_out
  refine (key y).trans ?_
  blk_point [iblk1, idx1 t]

end Cert.KernelIdeal.Value

end
-- ==== Proof.KResult.lean ====
/-
  The kernel's result as a function of its arguments: the linear layer's output, normalised with its channel sums.
-/
module

public import proofs.«01_k».proof.Proof.KValue

@[expose] public section

set_option maxRecDepth 16384

noncomputable section

open Idealize.ShloMosaic Idealize.ShloMosaic.TcCoe Idealize.SL.Sem Idealize.ShloMosaic.Tactic

namespace Cert.KernelIdeal.Value

open Cert.KernelIdeal Cert.KernelIdeal.Gen

variable (m : (ℓ : Loc nD τ sig) → Buf (Elt Ideal) ℓ) (ρ : Dev nD → PrngReg)

/-- The linear layer's output from the launch memory: batch, channel, point. -/
def input (c : Dev nD) (b : Fin 4) (o : Fin 128) (n : Fin 8192) : EReal :=
  Interp.mix (fun i => Interp.dist (fun d => (m ((c : Thread nD τ).loc main_arg0) : FVec Ideal S4x8192x3 .f32) (ix3 b n d))
      (fun d => (m ((c : Thread nD τ).loc main_arg1) : FVec Ideal S4x1024x3 .f32) (ix3 b i d)))
    (fun x i => (m ((c : Thread nD τ).loc main_arg3) : FVec Ideal S4x128x1024 .f32) (ix3 b x i))
    (fun x => (m ((c : Thread nD τ).loc main_arg2) : FVec Ideal S4x64x8192 .f32) (ix3 b x n))
    (fun j => (m ((c : Thread nD τ).loc main_arg4) : FVec Ideal S128x192 .f32) (ix2 o j))

/-- What the first host line leaves: the unknown points, coordinates before points. -/
theorem W1_v0 (c : Dev nD) (b : Fin 4) (d : Fin 3) (n : Fin 8192) :
    (W1 m ρ c (Proc.devRef .tc main_v0) : FVec Ideal S4x3x8192 .f32) (ix3 b d n)
      = (m ((c : Thread nD τ).loc main_arg0) : FVec Ideal S4x8192x3 .f32) (ix3 b n d) := by
  have e : (W1 m ρ c (Proc.devRef .tc main_v0) : FVec Ideal S4x3x8192 .f32)
      = transpose S4x3x8192 [0, 2, 1] (m ((c : Thread nD τ).loc main_arg0) : FVec Ideal S4x8192x3 .f32) transposes_S4x8192x3_S4x3x8192_0_2_1 := by
    unfold_abbrev_sides
    after_results
  rw [e]
  pointwise

/-- The first region computes the linear layer of the launch memory's arguments. -/
theorem entry_eq (c : Dev nD) (b : Fin 4) (o : Fin 128) (n : Fin 8192) : entry (V1 m ρ) c b o n = input m c b o n := by
  have e1 := W1_args m ρ c main_arg1 (by decide)
  have e2 := W1_args m ρ c main_arg2 (by decide)
  have e3 := W1_args m ρ c main_arg3 (by decide)
  have e4 := W1_args m ρ c main_arg4 (by decide)
  unfold entry layer input
  simp only [V1, e1, e2, e3, e4]
  congr 1
  funext i
  congr 1
  funext d
  exact W1_v0 m ρ c b d n

theorem W3_v2 (c : Dev nD) (o : Fin 128) :
    (W3 m ρ c (Proc.devRef .tc main_v2) : FVec Ideal S128x1 .f32) (ix2 o 0)
      = (m ((c : Thread nD τ).loc main_arg5) : FVec Ideal S128 .f32) (ix1 o) := by
  have e : (W3 m ρ c (Proc.devRef .tc main_v2) : FVec Ideal S128x1 .f32)
      = shapeCast S128x1 (W2 m ρ c (Proc.devRef .tc main_arg5) : FVec Ideal S128 .f32) shapeCasts_S128_S128x1 := by
    unfold_abbrev_sides
    after_results
    rfl
  rw [e, W2_args m ρ c main_arg5 (by decide)]
  pointwise

theorem W3_v3 (c : Dev nD) (o : Fin 128) :
    (W3 m ρ c (Proc.devRef .tc main_v3) : FVec Ideal S128x1 .f32) (ix2 o 0)
      = (m ((c : Thread nD τ).loc main_arg6) : FVec Ideal S128 .f32) (ix1 o) := by
  have e : (W3 m ρ c (Proc.devRef .tc main_v3) : FVec Ideal S128x1 .f32)
      = shapeCast S128x1 (W2 m ρ c (Proc.devRef .tc main_arg6) : FVec Ideal S128 .f32) shapeCasts_S128_S128x1 := by
    unfold_abbrev_sides
    after_results
    rfl
  rw [e, W2_args m ρ c main_arg6 (by decide)]
  pointwise

/-- The kernel's result: every element normalised with the sums of its channel over all batches and points. -/
theorem result (c : Dev nD) (b : Fin 4) (o : Fin 128) (n : Fin 8192) :
    (W4 m ρ c (Proc.devRef .tc main_v4) : FVec Ideal S4x128x8192 .f32) (ix3 b o n)
      = Interp.affine (∑ b : Fin 4, ∑ n : Fin 8192, input m c b o n) (∑ b : Fin 4, ∑ n : Fin 8192, input m c b o n * input m c b o n)
          ((m ((c : Thread nD τ).loc main_arg5) : FVec Ideal S128 .f32) (ix1 o))
          ((m ((c : Thread nD τ).loc main_arg6) : FVec Ideal S128 .f32) (ix1 o)) (input m c b o n) := by
  have e := (W4_arr m ρ c 5).trans (final1_5 (V3 m ρ) c)
  have a0 : V3 m ρ c main_v1_0 = _ := (W3_of m ρ c main_v1_0 (by decide)).trans ((W2_arr m ρ c 5).trans (final0_5 (V1 m ρ) c))
  have a1 : V3 m ρ c main_v1_1 = _ := (W3_of m ρ c main_v1_1 (by decide)).trans ((W2_arr m ρ c 6).trans (final0_6 (V1 m ρ) c))
  have a2 : V3 m ρ c main_v1_2 = _ := (W3_of m ρ c main_v1_2 (by decide)).trans ((W2_arr m ρ c 7).trans (final0_7 (V1 m ρ) c))
  refine (congrFun e (ix3 b o n)).trans ?_
  change Interp.affine (∑ b : Fin 4, (V3 m ρ c main_v1_1 : FVec Ideal S4x128x1 .f32) (ix3 b o 0))
    (∑ b : Fin 4, (V3 m ρ c main_v1_2 : FVec Ideal S4x128x1 .f32) (ix3 b o 0)) ((V3 m ρ c main_v2 : FVec Ideal S128x1 .f32) (ix2 o 0))
    ((V3 m ρ c main_v3 : FVec Ideal S128x1 .f32) (ix2 o 0)) ((V3 m ρ c main_v1_0 : FVec Ideal S4x128x8192 .bf16) (ix3 b o n)) = _
  rw [a0, a1, a2]
  change Interp.affine (∑ b : Fin 4, ∑ n : Fin 8192, entry (V1 m ρ) c b o n)
    (∑ b : Fin 4, ∑ n : Fin 8192, entry (V1 m ρ) c b o n * entry (V1 m ρ) c b o n) ((V3 m ρ c main_v2 : FVec Ideal S128x1 .f32) (ix2 o 0))
    ((V3 m ρ c main_v3 : FVec Ideal S128x1 .f32) (ix2 o 0)) (entry (V1 m ρ) c b o n) = _
  have hE : entry (V1 m ρ) c = input m c := by
    funext b o n
    exact entry_eq m ρ c b o n
  rw [hE]
  exact congr (congr (congrArg (Interp.affine _ _) (W3_v2 m ρ c o)) (W3_v3 m ρ c o)) rfl

end Cert.KernelIdeal.Value

end
-- ==== Proof.RefStages.lean ====
/-
  The reference's result, stage by stage: the negated squared distances, the three nearest points, their weights, the
  gathered features, the linear layer, the batch statistics and the normalisation. Their composition is the printed run's
  result.
-/
module

public import proofs.«01_k».proof.Proof.Gen.ReferenceIdeal.Run
public import Idealize.ShloMosaic.PureOps.Ideal
public import Idealize.ShloMosaic.Lib.Pointwise

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen

/-- The squared distances of every unknown point to every known point, negated. -/
def negDist (u : FVec Ideal S4x8192x3 .f32) (k : FVec Ideal S4x1024x3 .f32) : FVec Ideal S4x8192x1024 .f32 :=
  Host.negf (subf
    (addf
      (broadcastInDim S4x8192x1024 ![0, 1, 2] bcast_S4x8192x1_S4x8192x1024_0_1_2
        (broadcastInDim S4x8192x1 ![0, 1] bcast_S4x8192_S4x8192x1_0_1
          (Host.reduceAdd (mulf u u) (constant S_ .f32 0x00000000#32) reducesTo_S4x8192x3_S4x8192_d2 h_S_)))
      (broadcastInDim S4x8192x1024 ![0, 1, 2] bcast_S4x1x1024_S4x8192x1024_0_1_2
        (broadcastInDim S4x1x1024 ![0, 2] bcast_S4x1024_S4x1x1024_0_2
          (Host.reduceAdd (mulf k k) (constant S_ .f32 0x00000000#32) reducesTo_S4x1024x3_S4x1024_d2 h_S_))))
    (mulf (broadcastInDim S4x8192x1024 ![] bcast_S_S4x8192x1024 (constant S_ .f32 0x40000000#32))
      (Host.dotGeneral dot_S4x8192x3_S4x1024x3_S4x8192x1024_2_2_1_1_0_0 none u k)))

/-- The three greatest of the negated distances and their positions. -/
def nearest (x : FVec Ideal S4x8192x1024 .f32) : FVec Ideal S4x8192x3 .f32 × IVec S4x8192x3 32 :=
  Host.topK S4x8192x3 2 (FloatOps.cmpfTotal .gt) x sliceFits_S4x8192x1024_S4x8192x3

/-- The reciprocal weights of the three nearest points. -/
def recips (v : FVec Ideal S4x8192x3 .f32) : FVec Ideal S4x8192x3 .f32 :=
  Host.divf (broadcastInDim S4x8192x3 ![] bcast_S_S4x8192x3 (constant S_ .f32 0x3F800000#32))
    (addf (Host.sqrt (maximumf (Host.negf v) (broadcastInDim S4x8192x3 ![] bcast_S_S4x8192x3 (constant S_ .f32 0x00000000#32))))
      (broadcastInDim S4x8192x3 ![] bcast_S_S4x8192x3 (constant S_ .f32 0x322BCC77#32)))

/-- The weights: the reciprocals over their sum. -/
def weights (r : FVec Ideal S4x8192x3 .f32) : FVec Ideal S4x8192x3 .f32 :=
  Host.divf r (broadcastInDim S4x8192x3 ![0, 1, 2] bcast_S4x8192x1_S4x8192x3_0_1_2
    (broadcastInDim S4x8192x1 ![0, 1] bcast_S4x8192_S4x8192x1_0_1
      (Host.reduceAdd r (constant S_ .f32 0x00000000#32) reducesTo_S4x8192x3_S4x8192_d2 h_S_)))

/-- The positions to gather at, a negative one counted from the end. -/
def places (i : IVec S4x8192x3 32) : IVec S4x8192x3x1 32 :=
  broadcastInDim S4x8192x3x1 ![0, 1, 2] bcast_S4x8192x3_S4x8192x3x1_0_1_2
    (select (cmpi .slt i (broadcastInDim S4x8192x3 ![] bcast_S_S4x8192x3 (constantI S_ 32 0#32)))
      (addi i (broadcastInDim S4x8192x3 ![] bcast_S_S4x8192x3 (constantI S_ 32 1024#32))) i)

/-- Whether a position lies in the table. -/
def inside (p : IVec S4x8192x3x1 32) : IVec S4x8192x3 1 :=
  Host.reduce IntOp.andi
    (andi (cmpi .sge p (broadcastInDim S4x8192x3x1 ![] bcast_S_S4x8192x3x1 (constantI S_ 32 0#32)))
      (cmpi .sle p (broadcastInDim S4x8192x3x1 ![0, 1, 2, 3] bcast_S1x1x1x1_S4x8192x3x1_0_1_2_3
        (broadcastInDim S1x1x1x1 ![3] bcast_S1_S1x1x1x1_3 (constantI S1 32 1023#32)))))
    (constantI S_ 1 1#1) reducesTo_S4x8192x3x1_S4x8192x3_d3 h_S_

/-- The features at the positions. -/
def gathered (f : FVec Ideal S4x128x1024 .f32) (p : IVec S4x8192x3x1 32) : FVec Ideal S4x128x8192x3 .f32 :=
  select (broadcastInDim S4x128x8192x3 ![0, 2, 3] bcast_S4x8192x3_S4x128x8192x3_0_2_3 (inside p))
    (Host.gather gather_S4x128x1024_S4x8192x3x1_S4x128x8192x3_1_2_0_0_2_3_11281 f p)
    (broadcastInDim S4x128x8192x3 ![] bcast_S_S4x128x8192x3 (constant S_ .f32 0x7FC00000#32))

/-- The interpolated features: the gathered ones weighted and summed. -/
def interpolated (w : FVec Ideal S4x8192x3 .f32) (g : FVec Ideal S4x128x8192x3 .f32) : FVec Ideal S4x128x8192 .f32 :=
  transpose S4x128x8192 [0, 2, 1] (Host.dotGeneral dot_S4x8192x3_S4x128x8192x3_S4x8192x128_2_3_n_1_01_02 none w g)
    transposes_S4x8192x128_S4x128x8192_0_2_1

/-- The linear layer over the interpolated features followed by the points' own. -/
def linear (i : FVec Ideal S4x128x8192 .f32) (p : FVec Ideal S4x64x8192 .f32) (w : FVec Ideal S128x192 .f32) :
    FVec Ideal S4x128x8192 .f32 :=
  transpose S4x128x8192 [0, 2, 1]
    (Host.dotGeneral dot_S4x192x8192_S128x192_S4x8192x128_1_1_02_0_n_n none
      (concatenate S4x192x8192 1 [⟨S4x128x8192, i⟩, ⟨S4x64x8192, p⟩] concatenates_S4x128x8192_S4x64x8192_S4x192x8192_d1) w)
    transposes_S4x8192x128_S4x128x8192_0_2_1

/-- A channel's mean over batches and points. -/
def mean (x : FVec Ideal S4x128x8192 .f32) : FVec Ideal S1x128x1 .f32 :=
  Host.divf (broadcastInDim S1x128x1 ![1] bcast_S128_S1x128x1_1
      (Host.reduceAdd x (constant S_ .f32 0x00000000#32) reducesTo_S4x128x8192_S128_d0_2 h_S_))
    (broadcastInDim S1x128x1 ![] bcast_S_S1x128x1 (constant S_ .f32 0x47000000#32))

/-- An array less a value per channel. -/
def centred (x : FVec Ideal S4x128x8192 .f32) (μ : FVec Ideal S1x128x1 .f32) : FVec Ideal S4x128x8192 .f32 :=
  subf x (broadcastInDim S4x128x8192 ![0, 1, 2] bcast_S1x128x1_S4x128x8192_0_1_2 μ)

/-- The number of elements of a channel less the (zero) correction. -/
def freedom : FVec Ideal S_ .f32 := subf (constant S_ .f32 0x47000000#32) (sitofp .f32 (constantI S_ 32 0#32))

/-- A channel's mean square over batches and points. -/
def variance (d : FVec Ideal S4x128x8192 .f32) : FVec Ideal S1x128x1 .f32 :=
  select (broadcastInDim S1x128x1 ![] bcast_S_S1x128x1 (cmpf .ogt freedom (constant S_ .f32 0x00000000#32)))
    (Host.divf (broadcastInDim S1x128x1 ![1] bcast_S128_S1x128x1_1
        (Host.reduceAdd (mulf d d) (constant S_ .f32 0x00000000#32) reducesTo_S4x128x8192_S128_d0_2 h_S_))
      (broadcastInDim S1x128x1 ![] bcast_S_S1x128x1 freedom))
    (broadcastInDim S1x128x1 ![] bcast_S_S1x128x1 (id (constant S_ .f32 0x7FC00000#32)))

/-- The centred array over the root of the guarded variance, scaled, shifted, and its positive part. -/
def normalised (d : FVec Ideal S4x128x8192 .f32) (v : FVec Ideal S1x128x1 .f32) (g b : FVec Ideal S128 .f32) :
    FVec Ideal S4x128x8192 .f32 :=
  maximumf
    (addf
      (mulf
        (Host.divf d (broadcastInDim S4x128x8192 ![0, 1, 2] bcast_S1x128x1_S4x128x8192_0_1_2
          (Host.sqrt (addf v (broadcastInDim S1x128x1 ![] bcast_S_S1x128x1 (constant S_ .f32 0x3727C5AC#32))))))
        (broadcastInDim S4x128x8192 ![0, 1, 2] bcast_S1x128x1_S4x128x8192_0_1_2
          (broadcastInDim S1x128x1 ![1] bcast_S128_S1x128x1_1 g)))
      (broadcastInDim S4x128x8192 ![0, 1, 2] bcast_S1x128x1_S4x128x8192_0_1_2
        (broadcastInDim S1x128x1 ![1] bcast_S128_S1x128x1_1 b)))
    (broadcastInDim S4x128x8192 ![] bcast_S_S4x128x8192 (constant S_ .f32 0x00000000#32))

/-- The linear layer from the arguments. -/
def layer (u : FVec Ideal S4x8192x3 .f32) (k : FVec Ideal S4x1024x3 .f32) (p : FVec Ideal S4x64x8192 .f32)
    (f : FVec Ideal S4x128x1024 .f32) (w : FVec Ideal S128x192 .f32) : FVec Ideal S4x128x8192 .f32 :=
  linear (interpolated (weights (recips (nearest (negDist u k)).1)) (gathered f (places (nearest (negDist u k)).2))) p w

/-- The batch normalisation of an array. -/
def batchNorm (x : FVec Ideal S4x128x8192 .f32) (g b : FVec Ideal S128 .f32) : FVec Ideal S4x128x8192 .f32 :=
  normalised (centred x (mean x)) (variance (centred x (mean x))) g b

/-- The printed run's result is the composition of the stages. -/
theorem res_eq (m : (ℓ : Loc nD τ sig) → Buf (Elt Ideal) ℓ) (c : Dev nD) :
    Value.res_main_v51 m c = batchNorm (layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) := by
  unfold Value.res_main_v51
  rfl

end Cert.ReferenceIdeal.Stage

end
-- ==== Proof.Consts.lean ====
/-
  The float constants of the two programs as numbers.
-/
module

public import proofs.«01_k».proof.Proof.Spec

@[expose] public section

noncomputable section

open Idealize.ShloMosaic

namespace Interp

/-- The count of a channel's elements is 32768. -/
theorem count_eq : count = ((32768 : ℝ) : EReal) := by
  simp [count, Ideal.ofBits, Ideal.ieee]
  rw [← EReal.coe_mul]
  norm_num

/-- The distance guard is a positive real. -/
theorem tiny_real : ∃ r : ℝ, 0 < r ∧ tiny = (r : EReal) := by
  refine ⟨11258999 * (2 ^ 50)⁻¹, by norm_num, ?_⟩
  simp [tiny, Ideal.ofBits, Ideal.ieee]

/-- The variance guard is a positive real. -/
theorem guard_real : ∃ r : ℝ, 0 < r ∧ guard = (r : EReal) := by
  refine ⟨10995116 * (2 ^ 40)⁻¹, by norm_num, ?_⟩
  simp [guard, Ideal.ofBits, Ideal.ieee]

/-- The infinity is the greatest extended real. -/
theorem inf_eq : inf = (⊤ : EReal) := by
  simp [inf, Ideal.ofBits, Ideal.ieee]

end Interp

end
-- ==== Proof.RefRead.lean ====
/-
  The reference's stages read at an index.
-/
module

public import proofs.«01_k».proof.Proof.RefStages
public import proofs.«01_k».proof.Proof.Consts

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen

/-- A sum over the first and last of three axes, at the middle coordinate. -/
theorem sum_outer (x : FVec Ideal S4x128x8192 .f32) (o : Fin 128) :
    Ideal.hostReduceAdd reducesTo_S4x128x8192_S128_d0_2 x 0 (ix1 o) = ∑ b : Fin 4, ∑ n : Fin 8192, x (ix3 b o n) := by
  unfold Ideal.hostReduceAdd
  rw [zero_add]
  refine (Finset.sum_filter_eq_sum_of_fiber _ (fun k : Fin 4 × Fin 8192 => (ix3 k.1 o k.2 : S4x128x8192.Idx))
    (fun _ _ e => Prod.ext (congrFun e 0) (congrFun e 2)) (fun i => ?_) x).trans ?_
  · constructor
    · intro e
      refine ⟨(i 0, i 2), ?_⟩
      funext a
      match a with
      | ⟨0, _⟩ => rfl
      | ⟨1, _⟩ => exact (congrFun e 0).symm
      | ⟨2, _⟩ => rfl
    · rintro ⟨k, rfl⟩
      funext a
      match a with
      | ⟨0, _⟩ => rfl
  · simp only [Fintype.sum_prod_type]

theorem negDist_at (u : FVec Ideal S4x8192x3 .f32) (k : FVec Ideal S4x1024x3 .f32) (b : Fin 4) (n : Fin 8192) (i : Fin 1024) :
    negDist u k (ix3 b n i) = -Interp.dist (fun d => u (ix3 b n d)) (fun d => k (ix3 b i d)) := by
  pointwise [negDist, Interp.dist]
  simp only [mul_comm (u _) (k _)]

theorem recips_at (v : FVec Ideal S4x8192x3 .f32) (b : Fin 4) (n : Fin 8192) (k : Fin 3) :
    recips v (ix3 b n k) = Interp.recip (-v (ix3 b n k)) := by
  pointwise [recips, Interp.recip]

theorem weights_at (r : FVec Ideal S4x8192x3 .f32) (b : Fin 4) (n : Fin 8192) (k : Fin 3) :
    weights r (ix3 b n k) = Ideal.div (r (ix3 b n k)) (∑ k : Fin 3, r (ix3 b n k)) := by
  pointwise [weights]

theorem interpolated_at (w : FVec Ideal S4x8192x3 .f32) (g : FVec Ideal S4x128x8192x3 .f32) (b : Fin 4) (x : Fin 128) (n : Fin 8192) :
    interpolated w g (ix3 b x n) = ∑ k : Fin 3, w (ix3 b n k) * g (ix4 b x n k) := by
  pointwise [interpolated]

theorem linear_at (i : FVec Ideal S4x128x8192 .f32) (p : FVec Ideal S4x64x8192 .f32) (w : FVec Ideal S128x192 .f32)
    (b : Fin 4) (o : Fin 128) (n : Fin 8192) :
    linear i p w (ix3 b o n) = ∑ x : Fin 128, w (ix2 o ⟨x, by omega⟩) * i (ix3 b x n) + ∑ x : Fin 64, w (ix2 o ⟨128 + x, by omega⟩) * p (ix3 b x n) := by
  pointwise [linear]
  simp only [mul_comm (w _)]

theorem mean_at (x : FVec Ideal S4x128x8192 .f32) (o : Fin 128) :
    mean x (ix3 0 o 0) = Ideal.div (∑ b : Fin 4, ∑ n : Fin 8192, x (ix3 b o n)) Interp.count := by
  pointwise [mean]
  rw [sum_outer]

theorem centred_at (x : FVec Ideal S4x128x8192 .f32) (μ : FVec Ideal S1x128x1 .f32) (b : Fin 4) (o : Fin 128) (n : Fin 8192) :
    centred x μ (ix3 b o n) = x (ix3 b o n) - μ (ix3 0 o 0) := by
  pointwise [centred]

theorem variance_at (d : FVec Ideal S4x128x8192 .f32) (o : Fin 128) :
    variance d (ix3 0 o 0) = Ideal.div (∑ b : Fin 4, ∑ n : Fin 8192, d (ix3 b o n) * d (ix3 b o n)) Interp.count := by
  pointwise [variance, freedom]
  have h0 : (FloatOps.sitofp (F := Ideal) FTy.f32 0#32 : EReal) = 0 := by
    change (((0#32 : BitVec 32).toInt : ℝ) : EReal) = 0
    simp
  have hc : (0 : EReal) < Ideal.ofBits FTy.f32 1191182336#32 := by
    exact lt_of_lt_of_eq (EReal.coe_pos.mpr (by norm_num)) Interp.count_eq.symm
  rw [h0, sub_zero, if_pos hc, sum_outer]
  rfl

theorem normalised_at (d : FVec Ideal S4x128x8192 .f32) (v : FVec Ideal S1x128x1 .f32) (g β : FVec Ideal S128 .f32)
    (b : Fin 4) (o : Fin 128) (n : Fin 8192) :
    normalised d v g β (ix3 b o n)
      = max (Ideal.div (d (ix3 b o n)) (Ideal.sqrt (v (ix3 0 o 0) + Interp.guard)) * g (ix1 o) + β (ix1 o)) 0 := by
  pointwise [normalised]

theorem places_at (i : IVec S4x8192x3 32) (b : Fin 4) (n : Fin 8192) (k : Fin 3) (s : Fin 1024) (h : i (ix3 b n k) = BitVec.ofNat 32 s.val) :
    places i (ix4 b n k 0) = BitVec.ofNat 32 s.val := by
  pointwise [places]
  rw [h]
  exact (by decide +kernel : ∀ s : Fin 1024, Scalar.select (IntOp.cmpi CmpIPredicate.slt (BitVec.ofNat 32 s.val) 0#32)
    (IntOp.addi (BitVec.ofNat 32 s.val) 1024#32) (BitVec.ofNat 32 s.val) = BitVec.ofNat 32 s.val) s

theorem inside_at (p : IVec S4x8192x3x1 32) (b : Fin 4) (n : Fin 8192) (k : Fin 3) (s : Fin 1024) (h : p (ix4 b n k 0) = BitVec.ofNat 32 s.val) :
    inside p (ix3 b n k) = 1#1 := by
  pointwise [inside]
  rw [show (Finset.univ : Finset (Fin 1)) = {0} from rfl, Finset.fold_singleton, h]
  exact (by decide +kernel : ∀ s : Fin 1024, IntOp.andi (IntOp.andi (IntOp.cmpi CmpIPredicate.sge (BitVec.ofNat 32 s.val) 0#32)
    (IntOp.cmpi CmpIPredicate.sle (BitVec.ofNat 32 s.val) 1023#32)) 1#1 = 1#1) s

theorem gathered_at (f : FVec Ideal S4x128x1024 .f32) (p : IVec S4x8192x3x1 32) (b : Fin 4) (x : Fin 128) (n : Fin 8192) (k : Fin 3)
    (s : Fin 1024) (h : p (ix4 b n k 0) = BitVec.ofNat 32 s.val) :
    gathered f p (ix4 b x n k) = f (ix3 b x s) := by
  pointwise [gathered]
  rw [inside_at p b n k s h]
  refine (if_pos rfl).trans ?_
  unfold Host.gather
  congr 1
  funext a
  apply Fin.ext
  match a with
  | ⟨0, _⟩ => show 0 + b.val + 0 = b.val; omega
  | ⟨1, _⟩ => show 0 + 0 + x.val = x.val; omega
  | ⟨2, _⟩ =>
    have e : gather_S4x128x1024_S4x8192x3x1_S4x128x8192x3_1_2_0_0_2_3_11281.siIdx (ix4 b x n k : S4x128x8192x3.Idx) ⟨0, by decide⟩ = ix4 b n k 0 := by
      funext a
      match a with
      | ⟨0, _⟩ => rfl
      | ⟨1, _⟩ => rfl
      | ⟨2, _⟩ => rfl
      | ⟨3, _⟩ => rfl
    show min (p (gather_S4x128x1024_S4x8192x3x1_S4x128x8192x3_1_2_0_0_2_3_11281.siIdx (ix4 b x n k : S4x128x8192x3.Idx) ⟨0, by decide⟩)).toInt.toNat 1023 + 0 + 0 = s.val
    rw [e, h]
    exact (by decide +kernel : ∀ s : Fin 1024, min (BitVec.ofNat 32 s.val).toInt.toNat 1023 + 0 + 0 = s.val) s

end Cert.ReferenceIdeal.Stage

end
-- ==== Proof.Order.lean ====
/-
  The order of the known points by distance, and the printed top-k of the negated distances read through it.
-/
module

public import proofs.«01_k».proof.Proof.Spec
public import Idealize.ShloMosaic.PureOps.Ideal
public import Idealize.ShloMosaic.Lib.SortFacts
public import Idealize.ShloMosaic.Lib.Pointwise

@[expose] public section

noncomputable section

open Idealize.ShloMosaic

namespace Interp

/-- The point at each rank of the stable sort by distance. -/
def order (D : Fin 1024 → EReal) : Fin 1024 → Fin 1024 := sortedFrom fun i j => decide (D i < D j)

/-- Ranks are taken once. -/
theorem order_injective (D : Fin 1024 → EReal) : Function.Injective (order D) := sortedFrom_injective _

/-- Every point has a rank. -/
theorem order_surjective (D : Fin 1024 → EReal) : Function.Surjective (order D) := sortedFrom_surjective _

/-- Distances do not decrease with the rank. -/
theorem order_mono (D : Fin 1024 → EReal) (i j : Fin 1024) (h : i ≤ j) : D (order D i) ≤ D (order D j) := by
  rcases h.lt_or_eq with h | rfl
  · have := sortedFrom_noInversion (fun i j => decide (D i < D j)) (fun i j => decide (D i < D j))
      (fun a b h => by simp only [decide_eq_true_eq, decide_eq_false_iff_not] at h ⊢; exact h.le.not_gt)
      (fun a b h => h) (fun a b c h h' => by simp only [decide_eq_false_iff_not, not_lt] at h h' ⊢; exact h'.trans h) i j h
    rw [decide_eq_false_iff_not, not_lt] at this
    exact this
  · exact le_rfl

end Interp

namespace Interp

/-- The index a slice at the origin reads is the same one. -/
theorem slice_at {K : ℕ} {α : Type} (x : (⟨3, ![4, 8192, 1024]⟩ : Shape).Idx → α)
    (h : (⟨3, ![4, 8192, 1024]⟩ : Shape).Slices (fun _ => 0) ⟨3, ![4, 8192, K]⟩) (b : Fin 4) (n : Fin 8192) (k : Fin K) (hk : k.val < 1024) :
    extractStridedSlice ⟨3, ![4, 8192, K]⟩ (fun _ => 0) x h (ix3 b n k) = x (ix3 b n ⟨k.val, hk⟩) := by
  unfold extractStridedSlice
  congr 1
  funext a
  apply Fin.ext
  match a with
  | ⟨0, _⟩ => exact Nat.zero_add _
  | ⟨1, _⟩ => exact Nat.zero_add _
  | ⟨2, _⟩ => exact Nat.zero_add _

/-- Moving along the last axis replaces the last coordinate. -/
theorem along_at (b : Fin 4) (n : Fin 8192) (k i : Fin 1024) (h : 2 < (⟨3, ![4, 8192, 1024]⟩ : Shape).rank) :
    (ix3 b n k : (⟨3, ![4, 8192, 1024]⟩ : Shape).Idx).along ⟨2, h⟩ i = ix3 b n i := by
  funext a
  unfold Shape.Idx.along
  match a with
  | ⟨0, _⟩ => exact Function.update_of_ne (by simp) _ _
  | ⟨1, _⟩ => exact Function.update_of_ne (by simp) _ _
  | ⟨2, _⟩ => exact Function.update_self _ _ _

/-- Comparing negated distances from the greatest down is comparing distances from the least up. -/
theorem before_at (D : Fin 1024 → EReal) :
    (fun i j : Fin 1024 => FloatOps.cmpfTotal (F := Ideal) (φ := .f32) CmpDirection.gt (-D i : EReal) (-D j : EReal) == 1#1)
      = fun i j => decide (D i < D j) := by
  funext i j
  change (BitVec.ofBool (decide (-D j < -D i)) == 1#1) = _
  by_cases h : D i < D j
  · rw [decide_eq_true (EReal.neg_lt_neg_iff.mpr h), decide_eq_true h]; rfl
  · rw [decide_eq_false (fun h' => h (EReal.neg_lt_neg_iff.mp h')), decide_eq_false h]; rfl

/-- A stable sort of an array and another by the first along the last axis, sliced, at an index. -/
theorem sort_at {K : ℕ} {α β : Type} (gt : α → α → BitVec 1) (x : (⟨3, ![4, 8192, 1024]⟩ : Shape).Idx → α) (y : (⟨3, ![4, 8192, 1024]⟩ : Shape).Idx → β)
    (h : (⟨3, ![4, 8192, 1024]⟩ : Shape).Slices (fun _ => 0) ⟨3, ![4, 8192, K]⟩) (b : Fin 4) (n : Fin 8192) (k : Fin K) (hk : k.val < 1024)
    (B : Fin 1024 → Fin 1024 → Bool) (hB : ∀ i j, (gt (x (ix3 b n i)) (x (ix3 b n j)) == 1#1) = B i j) :
    extractStridedSlice ⟨3, ![4, 8192, K]⟩ (fun _ => 0) (Host.sort2 ⟨3, ![4, 8192, 1024]⟩ 2 (fun l r => gt l.1 r.1) x y).1 h (ix3 b n k)
        = x (ix3 b n (sortedFrom B ⟨k.val, hk⟩))
      ∧ extractStridedSlice ⟨3, ![4, 8192, K]⟩ (fun _ => 0) (Host.sort2 ⟨3, ![4, 8192, 1024]⟩ 2 (fun l r => gt l.1 r.1) x y).2 h (ix3 b n k)
        = y (ix3 b n (sortedFrom B ⟨k.val, hk⟩)) := by
  rw [slice_at _ h b n k hk, slice_at _ h b n k hk]
  unfold Host.sort2
  rw [dif_pos (by decide : 2 < (⟨3, ![4, 8192, 1024]⟩ : Shape).rank)]
  have lt : 2 < (⟨3, ![4, 8192, 1024]⟩ : Shape).rank := by decide
  have e : (fun i j : Fin 1024 => gt (x ((ix3 b n (⟨k.val, hk⟩ : Fin 1024) : (⟨3, ![4, 8192, 1024]⟩ : Shape).Idx).along ⟨2, lt⟩ i))
      (x ((ix3 b n (⟨k.val, hk⟩ : Fin 1024) : (⟨3, ![4, 8192, 1024]⟩ : Shape).Idx).along ⟨2, lt⟩ j)) == 1#1) = B := by
    funext i j
    rw [along_at, along_at, hB]
  constructor
  · dsimp only
    erw [e, along_at]
    rfl
  · dsimp only
    erw [e, along_at]
    rfl

/-- The values of a top-k of the negated distances: those at the first ranks. -/
theorem topK_fst_at {K : ℕ} (x : FVec Ideal ⟨3, ![4, 8192, 1024]⟩ .f32)
    (h : (⟨3, ![4, 8192, 1024]⟩ : Shape).Slices (fun _ => 0) ⟨3, ![4, 8192, K]⟩) (D : Fin 1024 → EReal)
    (b : Fin 4) (n : Fin 8192) (hx : ∀ i, x (ix3 b n i) = -D i) (k : Fin K) (hk : k.val < 1024) :
    (Host.topK ⟨3, ![4, 8192, K]⟩ 2 (FloatOps.cmpfTotal .gt) x h).1 (ix3 b n k) = -D (order D ⟨k.val, hk⟩) :=
  ((sort_at (FloatOps.cmpfTotal .gt) x (iotaInDim (w := 32) ⟨3, ![4, 8192, 1024]⟩ 2) h b n k hk (fun i j => decide (D i < D j))
    (fun i j => by rw [hx, hx]; exact congrFun (congrFun (before_at D) i) j)).1).trans (hx _)

/-- The positions of a top-k of the negated distances: the points at the first ranks. -/
theorem topK_snd_at {K : ℕ} (x : FVec Ideal ⟨3, ![4, 8192, 1024]⟩ .f32)
    (h : (⟨3, ![4, 8192, 1024]⟩ : Shape).Slices (fun _ => 0) ⟨3, ![4, 8192, K]⟩) (D : Fin 1024 → EReal)
    (b : Fin 4) (n : Fin 8192) (hx : ∀ i, x (ix3 b n i) = -D i) (k : Fin K) (hk : k.val < 1024) :
    (Host.topK ⟨3, ![4, 8192, K]⟩ 2 (FloatOps.cmpfTotal .gt) x h).2 (ix3 b n k)
      = BitVec.ofNat 32 (order D ⟨k.val, hk⟩).val :=
  (sort_at (FloatOps.cmpfTotal .gt) x (iotaInDim (w := 32) ⟨3, ![4, 8192, 1024]⟩ 2) h b n k hk (fun i j => decide (D i < D j))
    (fun i j => by rw [hx, hx]; exact congrFun (congrFun (before_at D) i) j)).2

end Interp

end
-- ==== Proof.Select.lean ====
/-
  Three strictly nearest points: repeated minimum finds exactly them, one after another, and summing features against the
  picked weights is the weighted sum over the three.
-/
module

public import proofs.«01_k».proof.Proof.Spec
public import proofs.«01_k».proof.Proof.Consts
public import Idealize.ShloMosaic.Lib.IdealHost

@[expose] public section

noncomputable section

open Idealize.ShloMosaic

namespace Interp

/-- `σ` lists the three strictly nearest points in order, at distances below infinity. -/
structure Nearest (D : Fin 1024 → EReal) (σ : Fin 3 → Fin 1024) : Prop where
  /-- The first is nearer than the second. -/
  fst : D (σ 0) < D (σ 1)
  /-- The second is nearer than the third. -/
  snd : D (σ 1) < D (σ 2)
  /-- Every other point is farther than the third. -/
  rest : ∀ i, i ≠ σ 0 → i ≠ σ 1 → i ≠ σ 2 → D (σ 2) < D i
  /-- The third's distance is below infinity. -/
  top : D (σ 2) < ⊤

/-- A point nearer than all others attains the least distance, alone. -/
theorem low_of_least {D : Fin 1024 → EReal} {a : Fin 1024} (h : ∀ i, i ≠ a → D a < D i) :
    low D = D a ∧ ∀ i, D i = low D ↔ i = a := by
  have e : low D = D a := by
    unfold low
    apply le_antisymm
    · exact (Finset.fold_min_le _).mpr (Or.inr ⟨a, Finset.mem_univ a, le_rfl⟩)
    · refine (Finset.le_fold_min _).mpr ⟨by rw [inf_eq]; exact le_top, fun i _ => ?_⟩
      by_cases hi : i = a
      · rw [hi]
      · exact (h i hi).le
  refine ⟨e, fun i => ⟨fun hi => ?_, fun hi => by rw [hi, e]⟩⟩
  by_contra hn
  exact (h i hn).ne (by rw [hi, e])

/-- Dropping the least replaces that one point's distance by infinity. -/
theorem drop_of_least {D : Fin 1024 → EReal} {a : Fin 1024} (h : ∀ i, i ≠ a → D a < D i) (i : Fin 1024) :
    drop D i = if i = a then ⊤ else D i := by
  unfold drop
  rw [inf_eq]
  by_cases hi : i = a
  · rw [if_pos hi, if_pos ((low_of_least h).2 i |>.mpr hi)]
  · rw [if_neg hi, if_neg (fun e => hi ((low_of_least h).2 i |>.mp e))]

section
variable {D : Fin 1024 → EReal} {σ : Fin 3 → Fin 1024} (h : Nearest D σ)
include h

theorem Nearest.ne01 : σ 0 ≠ σ 1 := fun e => h.fst.ne (by rw [e])
theorem Nearest.ne12 : σ 1 ≠ σ 2 := fun e => h.snd.ne (by rw [e])
theorem Nearest.ne02 : σ 0 ≠ σ 2 := fun e => (h.fst.trans h.snd).ne (by rw [e])

/-- The first point is the least of the distances. -/
theorem Nearest.least0 (i : Fin 1024) (hi : i ≠ σ 0) : D (σ 0) < D i := by
  by_cases h1 : i = σ 1
  · rw [h1]; exact h.fst
  by_cases h2 : i = σ 2
  · rw [h2]; exact h.fst.trans h.snd
  exact (h.fst.trans h.snd).trans (h.rest i hi h1 h2)

/-- With the first dropped the second's distance is kept. -/
theorem Nearest.drop1 : drop D (σ 1) = D (σ 1) := by rw [drop_of_least h.least0, if_neg h.ne01.symm]

/-- With the first dropped the second is the least. -/
theorem Nearest.least1 (i : Fin 1024) (hi : i ≠ σ 1) : drop D (σ 1) < drop D i := by
  rw [h.drop1, drop_of_least h.least0]
  by_cases h0 : i = σ 0
  · rw [if_pos h0]; exact h.snd.trans h.top
  rw [if_neg h0]
  by_cases h2 : i = σ 2
  · rw [h2]; exact h.snd
  exact h.snd.trans (h.rest i h0 hi h2)

/-- With the first two dropped the third's distance is kept. -/
theorem Nearest.drop2 : drop (drop D) (σ 2) = D (σ 2) := by
  rw [drop_of_least h.least1, if_neg h.ne12.symm, drop_of_least h.least0, if_neg h.ne02.symm]

/-- With the first two dropped the third is the least. -/
theorem Nearest.least2 (i : Fin 1024) (hi : i ≠ σ 2) : drop (drop D) (σ 2) < drop (drop D) i := by
  rw [h.drop2, drop_of_least h.least1]
  by_cases h1 : i = σ 1
  · rw [if_pos h1]; exact h.top
  rw [if_neg h1, drop_of_least h.least0]
  by_cases h0 : i = σ 0
  · rw [if_pos h0]; exact h.top
  rw [if_neg h0]
  exact h.rest i h0 h1 hi

/-- The total is the sum of the three points' reciprocal weights. -/
theorem Nearest.total_eq : total D = ∑ k : Fin 3, recip (D (σ k)) := by
  unfold total
  rw [(low_of_least h.least0).1, (low_of_least h.least1).1, (low_of_least h.least2).1, h.drop1, h.drop2, Fin.sum_univ_three]

/-- The picked weights: the three points', zero elsewhere. -/
theorem Nearest.pick_eq (i : Fin 1024) :
    pick D i = if i = σ 0 then recip (D (σ 0)) * Ideal.div 1 (total D) else if i = σ 1 then recip (D (σ 1)) * Ideal.div 1 (total D)
      else if i = σ 2 then recip (D (σ 2)) * Ideal.div 1 (total D) else 0 := by
  unfold pick
  simp only [(low_of_least h.least0).2, (low_of_least h.least1).2, (low_of_least h.least2).2]
  rw [(low_of_least h.least0).1, (low_of_least h.least1).1, (low_of_least h.least2).1, h.drop1, h.drop2]

/-- Features summed against the picked weights: three terms. -/
theorem Nearest.sum_eq (f : Fin 1024 → EReal) :
    ∑ i, f i * pick D i = ∑ k : Fin 3, f (σ k) * (recip (D (σ k)) * Ideal.div 1 (total D)) := by
  have e : ∀ i, f i * pick D i = (if i = σ 0 then f (σ 0) * (recip (D (σ 0)) * Ideal.div 1 (total D)) else 0)
      + (if i = σ 1 then f (σ 1) * (recip (D (σ 1)) * Ideal.div 1 (total D)) else 0)
      + (if i = σ 2 then f (σ 2) * (recip (D (σ 2)) * Ideal.div 1 (total D)) else 0) := by
    intro i
    rw [h.pick_eq]
    by_cases h0 : i = σ 0
    · rw [if_pos h0, if_pos h0, if_neg (fun e => h.ne01 (h0.symm.trans e)), if_neg (fun e => h.ne02 (h0.symm.trans e)), h0, add_zero, add_zero]
    rw [if_neg h0, if_neg h0, zero_add]
    by_cases h1 : i = σ 1
    · rw [if_pos h1, if_pos h1, if_neg (fun e => h.ne12 (h1.symm.trans e)), h1, add_zero]
    rw [if_neg h1, if_neg h1, zero_add]
    by_cases h2 : i = σ 2
    · rw [if_pos h2, if_pos h2, h2]
    rw [if_neg h2, if_neg h2, mul_zero]
  rw [Finset.sum_congr rfl (fun i _ => e i), Finset.sum_add_distrib, Finset.sum_add_distrib, Fin.sum_univ_three]
  simp only [Finset.sum_ite_eq', Finset.sum_ite_eq, Finset.mem_univ, if_true]

end

end Interp

end
-- ==== Proof.Finite.lean ====
/-
  Finite extended reals: closed under sums and products; the reciprocal weights of distances below infinity are positive
  reals, and the mixed features are finite when the arguments are.
-/
module

public import proofs.«01_k».proof.Proof.Select

@[expose] public section

noncomputable section

open Idealize.ShloMosaic

namespace Interp

/-- An extended real that is a real. -/
def Finite (x : EReal) : Prop := ∃ r : ℝ, x = (r : EReal)

theorem Finite.add {x y : EReal} : Finite x → Finite y → Finite (x + y) := by
  rintro ⟨r, rfl⟩ ⟨s, rfl⟩
  exact ⟨r + s, (EReal.coe_add r s).symm⟩

theorem Finite.mul {x y : EReal} : Finite x → Finite y → Finite (x * y) := by
  rintro ⟨r, rfl⟩ ⟨s, rfl⟩
  exact ⟨r * s, (EReal.coe_mul r s).symm⟩

theorem Finite.sum {ι : Type} (s : Finset ι) {f : ι → EReal} (h : ∀ i, Finite (f i)) : Finite (∑ i ∈ s, f i) := by
  classical
  induction s using Finset.induction_on with
  | empty => exact ⟨0, Finset.sum_empty⟩
  | insert a s ha ih => rw [Finset.sum_insert ha]; exact (h a).add ih

/-- What lies below infinity in absolute value is finite. -/
theorem Finite.of_abs {x : EReal} (h : max x (-x) < ⊤) : Finite x := by
  obtain ⟨h1, h2⟩ := max_lt_iff.mp h
  induction x using EReal.rec with
  | bot => exact absurd h2 (by simp)
  | top => exact absurd h1 (by simp)
  | coe r => exact ⟨r, rfl⟩

/-- The quotient by a nonzero real. -/
theorem div_coe (x : EReal) {s : ℝ} (h : s ≠ 0) : Ideal.div x (s : EReal) = x * ((s⁻¹ : ℝ) : EReal) := by
  unfold Ideal.div
  rw [if_neg (by exact_mod_cast h), EReal.coe_inv]

/-- The reciprocal weight of a distance below infinity is a positive real. -/
theorem recip_pos {v : EReal} (h : v < ⊤) : ∃ r : ℝ, 0 < r ∧ recip v = (r : EReal) := by
  obtain ⟨t, ht, et⟩ := tiny_real
  obtain ⟨y, hy, ey⟩ : ∃ y : ℝ, 0 ≤ y ∧ max v 0 = (y : EReal) := by
    induction v using EReal.rec with
    | bot => exact ⟨0, le_rfl, by simp⟩
    | top => exact absurd h (lt_irrefl _)
    | coe r => exact ⟨max r 0, le_max_right _ _, (EReal.coe_strictMono.monotone.map_max (a := r) (b := 0)).symm⟩
  have hs : 0 < Real.sqrt y + t := add_pos_of_nonneg_of_pos (Real.sqrt_nonneg y) ht
  refine ⟨(Real.sqrt y + t)⁻¹, inv_pos.mpr hs, ?_⟩
  unfold recip
  have e : Ideal.sqrt (y : EReal) = (Real.sqrt y : EReal) := by
    change (if y < 0 then (⊥ : EReal) else (Real.sqrt y : EReal)) = _
    rw [if_neg hy.not_gt]
  rw [ey, et, e, ← EReal.coe_add, div_coe _ hs.ne', one_mul]

section
variable {D : Fin 1024 → EReal} {σ : Fin 3 → Fin 1024} (h : Nearest D σ)
include h

/-- Each of the three distances is below infinity. -/
theorem Nearest.lt_top (k : Fin 3) : D (σ k) < ⊤ := by
  match k with
  | 0 => exact (h.fst.trans h.snd).trans h.top
  | 1 => exact h.snd.trans h.top
  | 2 => exact h.top

/-- The total of the reciprocal weights is a positive real. -/
theorem Nearest.total_pos : ∃ r : ℝ, 0 < r ∧ total D = (r : EReal) := by
  obtain ⟨p, hp, ep⟩ := recip_pos (h.lt_top 0)
  obtain ⟨q, hq, eq⟩ := recip_pos (h.lt_top 1)
  obtain ⟨r, hr, er⟩ := recip_pos (h.lt_top 2)
  refine ⟨p + q + r, by positivity, ?_⟩
  rw [h.total_eq, Fin.sum_univ_three, ep, eq, er, EReal.coe_add, EReal.coe_add]

/-- A reciprocal weight times the reciprocal of the total is its quotient by the sum of the three. -/
theorem Nearest.weight_eq (k : Fin 3) :
    recip (D (σ k)) * Ideal.div 1 (total D) = Ideal.div (recip (D (σ k))) (∑ k : Fin 3, recip (D (σ k))) := by
  obtain ⟨r, hr, er⟩ := h.total_pos
  rw [← h.total_eq]
  exact Ideal.mul_one_div (by rw [er]; exact_mod_cast hr.ne')

/-- The mixed features written over the three nearest points. -/
theorem Nearest.mix_eq (f : Fin 128 → Fin 1024 → EReal) (u : Fin 64 → EReal) (w : Fin 192 → EReal) :
    mix D f u w = ∑ x : Fin 128, w ⟨x, by omega⟩ *
        ∑ k : Fin 3, Ideal.div (recip (D (σ k))) (∑ k : Fin 3, recip (D (σ k))) * f x (σ k)
      + ∑ x : Fin 64, w ⟨128 + x, by omega⟩ * u x := by
  unfold mix
  congr 1
  refine Finset.sum_congr rfl fun x _ => ?_
  rw [h.sum_eq]
  congr 1
  refine Finset.sum_congr rfl fun k _ => ?_
  rw [h.weight_eq, mul_comm]

/-- The mixed features are finite when the features and the weights of the layer are. -/
theorem Nearest.mix_finite {f : Fin 128 → Fin 1024 → EReal} {u : Fin 64 → EReal} {w : Fin 192 → EReal}
    (hf : ∀ x i, Finite (f x i)) (hu : ∀ x, Finite (u x)) (hw : ∀ j, Finite (w j)) : Finite (mix D f u w) := by
  unfold mix
  refine (Finite.sum _ fun x => (hw _).mul ?_).add (Finite.sum _ fun x => (hw _).mul (hu x))
  rw [h.sum_eq]
  refine Finite.sum _ fun k => (hf x _).mul (Finite.mul ?_ ?_)
  · obtain ⟨r, _, er⟩ := recip_pos (h.lt_top k)
    exact ⟨r, er⟩
  · obtain ⟨r, hr, er⟩ := h.total_pos
    exact ⟨r⁻¹, by rw [er, div_coe _ hr.ne', one_mul]⟩

end

end Interp

end
-- ==== Proof.PreRead.lean ====
/-
  What the precondition says: the four nearest distances of every unknown point increase strictly, and the features, the
  layer's weights and the gain are finite.
-/
module

public import proofs.«01_k».proof.Proof.PreFacts
public import proofs.«01_k».proof.Proof.RefRead
public import proofs.«01_k».proof.Proof.Order
public import proofs.«01_k».proof.Proof.Finite

@[expose] public section

set_option maxRecDepth 16384

noncomputable section

open Idealize.ShloMosaic

namespace Cert.Pre_distinct_finite.Read

open Cert.Pre_distinct_finite Cert.Pre_distinct_finite.Side

variable (a0 : FVec Ideal S4x8192x3 .f32) (a1 : FVec Ideal S4x1024x3 .f32) (a2 : FVec Ideal S4x64x8192 .f32)
  (a3 : FVec Ideal S4x128x1024 .f32) (a4 : FVec Ideal S128x192 .f32) (a5 a6 : FVec Ideal S128 .f32)

/-- The four greatest negated distances. -/
def four : FVec Ideal S4x8192x4 .f32 :=
  (Host.topK S4x8192x4 2 (FloatOps.cmpfTotal .gt) (Cert.ReferenceIdeal.Stage.negDist a0 a1) Facts.sliceFits_S4x8192x1024_S4x8192x4).1

/-- Each of the first three compared with the one after it. -/
def falls (v : FVec Ideal S4x8192x4 .f32) : IVec S4x8192x3 1 :=
  cmpf .ogt (extractStridedSlice S4x8192x3 ![0, 0, 0] v Facts.slices_S4x8192x4_S4x8192x3_0_0_0)
    (extractStridedSlice S4x8192x3 ![0, 0, 1] v Facts.slices_S4x8192x4_S4x8192x3_0_0_1)

/-- The first component compares the four greatest negated distances. -/
theorem fst_eq : (fn (F := Ideal) a0 a1 a2 a3 a4 a5 a6).1 = falls (four a0 a1) := rfl

/-- A comparison at an index. -/
theorem falls_at (v : FVec Ideal S4x8192x4 .f32) (b : Fin 4) (n : Fin 8192) (k : Fin 3) (h : falls v (ix3 b n k) = 1#1) :
    v (ix3 b n ⟨k.val + 1, by omega⟩) < v (ix3 b n ⟨k.val, by omega⟩) := by
  have e0 : extractStridedSlice S4x8192x3 ![0, 0, 0] v Facts.slices_S4x8192x4_S4x8192x3_0_0_0 (ix3 b n k) = v (ix3 b n ⟨k.val, by omega⟩) := by
    unfold extractStridedSlice
    congr 1
    funext a
    apply Fin.ext
    match a with
    | ⟨0, _⟩ => exact Nat.zero_add _
    | ⟨1, _⟩ => exact Nat.zero_add _
    | ⟨2, _⟩ => exact Nat.zero_add _
  have e1 : extractStridedSlice S4x8192x3 ![0, 0, 1] v Facts.slices_S4x8192x4_S4x8192x3_0_0_1 (ix3 b n k) = v (ix3 b n ⟨k.val + 1, by omega⟩) := by
    unfold extractStridedSlice
    congr 1
    funext a
    apply Fin.ext
    match a with
    | ⟨0, _⟩ => exact Nat.zero_add _
    | ⟨1, _⟩ => exact Nat.zero_add _
    | ⟨2, _⟩ => exact Nat.add_comm 1 _
  rw [← e0, ← e1]
  by_contra hn
  have : falls v (ix3 b n k) = 0#1 := by
    change BitVec.ofBool (decide (_ < _)) = _
    rw [decide_eq_false hn]
    rfl
  rw [this] at h
  exact absurd h (by decide)

/-- A finiteness test at an index. -/
theorem finite_at {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : Interp.Finite (x i) := by
  apply Interp.Finite.of_abs
  rw [← Interp.inf_eq]
  by_contra hn
  have : cmpf .olt (Host.absf x) (broadcastInDim s ![] hb (constant S_ .f32 0x7F800000#32)) i = 0#1 := by
    change BitVec.ofBool (decide (max (x i) (-x i) < Interp.inf)) = _
    rw [decide_eq_false hn]
    rfl
  rw [this] at h
  exact absurd h (by decide)

/-- The point's features are finite. -/
theorem finite2 (h : (fn (F := Ideal) a0 a1 a2 a3 a4 a5 a6).2.1 = fun _ => 1#1) (i : S4x64x8192.Idx) : Interp.Finite (a2 i) :=
  finite_at a2 Facts.bcast_S_S4x64x8192 i (congrFun h i)

/-- The known points' features are finite. -/
theorem finite3 (h : (fn (F := Ideal) a0 a1 a2 a3 a4 a5 a6).2.2.1 = fun _ => 1#1) (i : S4x128x1024.Idx) : Interp.Finite (a3 i) :=
  finite_at a3 Facts.bcast_S_S4x128x1024 i (congrFun h i)

/-- The layer's weights are finite. -/
theorem finite4 (h : (fn (F := Ideal) a0 a1 a2 a3 a4 a5 a6).2.2.2.1 = fun _ => 1#1) (i : S128x192.Idx) : Interp.Finite (a4 i) :=
  finite_at a4 Facts.bcast_S_S128x192 i (congrFun h i)

/-- The gain is finite. -/
theorem finite5 (h : (fn (F := Ideal) a0 a1 a2 a3 a4 a5 a6).2.2.2.2 = fun _ => 1#1) (i : S128.Idx) : Interp.Finite (a5 i) :=
  finite_at a5 Facts.bcast_S_S128 i (congrFun h i)

/-- The distances of an unknown point to the known ones. -/
abbrev dists (b : Fin 4) (n : Fin 8192) : Fin 1024 → EReal :=
  fun i => Interp.dist (fun d => a0 (ix3 b n d)) (fun d => a1 (ix3 b i d))

/-- The points at the first three ranks are the three strictly nearest. -/
theorem nearest (h : (fn (F := Ideal) a0 a1 a2 a3 a4 a5 a6).1 = fun _ => 1#1) (b : Fin 4) (n : Fin 8192) :
    Interp.Nearest (dists a0 a1 b n) (fun k : Fin 3 => Interp.order (dists a0 a1 b n) ⟨k.val, by omega⟩) := by
  have lt : ∀ k : Fin 3, dists a0 a1 b n (Interp.order (dists a0 a1 b n) ⟨k.val, by omega⟩)
      < dists a0 a1 b n (Interp.order (dists a0 a1 b n) ⟨k.val + 1, by omega⟩) := by
    intro k
    have hk := falls_at (four a0 a1) b n k (by rw [← fst_eq a0 a1 a2 a3 a4 a5 a6, h])
    unfold four at hk
    rw [Interp.topK_fst_at _ _ (dists a0 a1 b n) b n (fun i => Cert.ReferenceIdeal.Stage.negDist_at a0 a1 b n i) ⟨k.val + 1, by omega⟩
        (show k.val + 1 < 1024 by omega),
      Interp.topK_fst_at (K := 4) _ _ (dists a0 a1 b n) b n (fun i => Cert.ReferenceIdeal.Stage.negDist_at a0 a1 b n i) ⟨k.val, by omega⟩
        (show k.val < 1024 by omega)] at hk
    exact EReal.neg_lt_neg_iff.mp hk
  refine ⟨lt 0, lt 1, fun i h0 h1 h2 => ?_, (lt 2).trans_le le_top⟩
  obtain ⟨j, rfl⟩ := Interp.order_surjective (dists a0 a1 b n) i
  have hj : (⟨3, by omega⟩ : Fin 1024) ≤ j := by
    by_contra hn
    have hn : j.val < 3 := by
      have := not_le.mp hn
      exact this
    have : j.val = 0 ∨ j.val = 1 ∨ j.val = 2 := by omega
    rcases this with e | e | e
    · exact h0 (congrArg _ (Fin.ext e))
    · exact h1 (congrArg _ (Fin.ext e))
    · exact h2 (congrArg _ (Fin.ext e))
  exact (lt 2).trans_le (Interp.order_mono (dists a0 a1 b n) _ _ hj)

end Cert.Pre_distinct_finite.Read

end
-- ==== Proof.Stats.lean ====
/-
  Batch normalisation by one multiplication and one addition, from a channel's sum and sum of squares, is normalisation by
  the centred square mean, for a channel of finite values and a finite gain.
-/
module

public import proofs.«01_k».proof.Proof.Finite

@[expose] public section

noncomputable section

open Idealize.ShloMosaic

namespace Interp

/-- The coercion of a double sum of reals. -/
theorem coe_sum2 (f : Fin 4 → Fin 8192 → ℝ) : ∑ b, ∑ n, (f b n : EReal) = ((∑ b, ∑ n, f b n : ℝ) : EReal) := by
  have e : ∀ {ι : Type} [Fintype ι] (g : ι → ℝ), ∑ i, (g i : EReal) = ((∑ i, g i : ℝ) : EReal) := by
    intro ι _ g
    classical
    induction (Finset.univ : Finset ι) using Finset.induction_on with
    | empty => simp
    | insert a s ha ih => rw [Finset.sum_insert ha, Finset.sum_insert ha, ih, EReal.coe_add]
  rw [← e]
  exact Finset.sum_congr rfl fun b _ => e _

/-- The mean of the centred squares is the mean of the squares less the square of the mean. -/
theorem variance_eq (ξ : Fin 4 → Fin 8192 → ℝ) (m : ℝ) (hm : m = (∑ b, ∑ n, ξ b n) * (32768 : ℝ)⁻¹) :
    (∑ b, ∑ n, (ξ b n - m) * (ξ b n - m)) * (32768 : ℝ)⁻¹ = (∑ b, ∑ n, ξ b n * ξ b n) * (32768 : ℝ)⁻¹ - m * m := by
  have e : ∑ b, ∑ n, (ξ b n - m) * (ξ b n - m) = ∑ b, ∑ n, ξ b n * ξ b n - 2 * m * ∑ b, ∑ n, ξ b n + 32768 * (m * m) := by
    have e1 : ∀ b n, (ξ b n - m) * (ξ b n - m) = ξ b n * ξ b n - 2 * m * ξ b n + m * m := fun b n => by ring
    simp only [e1, Finset.sum_add_distrib, Finset.sum_sub_distrib, ← Finset.mul_sum, Finset.sum_const, Finset.card_univ,
      Fintype.card_fin, nsmul_eq_mul]
    push_cast
    ring
  have es : ∑ b, ∑ n, ξ b n = 32768 * m := by rw [hm]; ring
  rw [e, es]
  ring

/-- The mean of a real sum. -/
theorem mean_coe (s : ℝ) : mean (s : EReal) = ((s * (32768 : ℝ)⁻¹ : ℝ) : EReal) := by
  unfold mean
  rw [count_eq, div_coe _ (by norm_num), EReal.coe_mul]

/-- The two forms of the normalisation agree; the shift may be any extended real. -/
theorem affine_eq (x : Fin 4 → Fin 8192 → EReal) (hx : ∀ b n, Finite (x b n)) (g β : EReal) (hg : Finite g) (b : Fin 4) (n : Fin 8192) :
    affine (∑ b, ∑ n, x b n) (∑ b, ∑ n, x b n * x b n) g β (x b n)
      = max (Ideal.div (x b n - mean (∑ b, ∑ n, x b n))
          (Ideal.sqrt (mean (∑ b, ∑ n, (x b n - mean (∑ b, ∑ n, x b n)) * (x b n - mean (∑ b, ∑ n, x b n))) + guard)) * g + β) 0 := by
  choose ξ hξ using hx
  obtain ⟨γ, rfl⟩ := hg
  obtain ⟨ε, hε, eε⟩ := guard_real
  obtain rfl : x = fun b n => (ξ b n : EReal) := by funext b n; exact hξ b n
  set m : ℝ := (∑ b, ∑ n, ξ b n) * (32768 : ℝ)⁻¹ with hm
  have em : mean (∑ b, ∑ n, (ξ b n : EReal)) = (m : EReal) := by rw [coe_sum2, mean_coe]
  set v : ℝ := (∑ b, ∑ n, (ξ b n - m) * (ξ b n - m)) * (32768 : ℝ)⁻¹ with hv
  have v0 : 0 ≤ v := by
    have e : 0 ≤ ∑ b, ∑ n, (ξ b n - m) * (ξ b n - m) := by
      apply Finset.sum_nonneg
      intro b _
      apply Finset.sum_nonneg
      intro n _
      exact mul_self_nonneg _
    rw [hv]
    exact mul_nonneg e (inv_nonneg.mpr (by norm_num))
  have ev : mean (∑ b, ∑ n, ((ξ b n : EReal) - (m : EReal)) * ((ξ b n : EReal) - (m : EReal))) = (v : EReal) := by
    simp only [← EReal.coe_sub, ← EReal.coe_mul]
    rw [coe_sum2, mean_coe]
  have eq : mean (∑ b, ∑ n, (ξ b n : EReal) * (ξ b n : EReal)) - (m : EReal) * (m : EReal) = (v : EReal) := by
    simp only [← EReal.coe_mul]
    rw [coe_sum2, mean_coe, ← EReal.coe_sub, hv, variance_eq ξ m hm]
  have hp : 0 < v + ε := add_pos_of_nonneg_of_pos v0 hε
  have er : Ideal.rsqrt ((v + ε : ℝ) : EReal) = ((Real.sqrt (v + ε))⁻¹ : ℝ) := by
    change (if v + ε < 0 then (⊥ : EReal) else if v + ε = 0 then (⊤ : EReal) else (((Real.sqrt (v + ε))⁻¹ : ℝ) : EReal)) = _
    rw [if_neg hp.not_gt, if_neg hp.ne']
  have es : Ideal.sqrt ((v + ε : ℝ) : EReal) = (Real.sqrt (v + ε) : ℝ) := by
    change (if v + ε < 0 then (⊥ : EReal) else (Real.sqrt (v + ε) : EReal)) = _
    rw [if_neg hp.not_gt]
  unfold affine gain
  simp only [em, ev, eq]
  rw [eε, ← EReal.coe_add, er, es, div_coe _ (Real.sqrt_pos.mpr hp).ne']
  congr 1
  rw [← EReal.coe_mul, ← EReal.coe_mul, ← EReal.coe_mul, ← EReal.coe_sub, ← EReal.coe_mul, ← EReal.coe_mul, sub_eq_add_neg β,
    ← EReal.coe_neg, add_comm β, ← add_assoc, ← EReal.coe_add]
  congr 2
  ring

end Interp

end
-- ==== Proof.RefValue.lean ====
/-
  The reference's value at an index: its layer is the mixed features over the three nearest points, its normalisation the
  one by the centred square mean; both are what the sums give under the precondition.
-/
module

public import proofs.«01_k».proof.Proof.RefRead
public import proofs.«01_k».proof.Proof.Order
public import proofs.«01_k».proof.Proof.Stats

@[expose] public section

set_option maxRecDepth 16384

noncomputable section

open Idealize.ShloMosaic

namespace Cert.ReferenceIdeal.Stage

open Cert.ReferenceIdeal Cert.ReferenceIdeal.Gen

/-- The distances of an unknown point to the known ones. -/
abbrev dists (u : FVec Ideal S4x8192x3 .f32) (k : FVec Ideal S4x1024x3 .f32) (b : Fin 4) (n : Fin 8192) : Fin 1024 → EReal :=
  fun i => Interp.dist (fun d => u (ix3 b n d)) (fun d => k (ix3 b i d))

/-- The points at the first three ranks. -/
abbrev first (u : FVec Ideal S4x8192x3 .f32) (k : FVec Ideal S4x1024x3 .f32) (b : Fin 4) (n : Fin 8192) : Fin 3 → Fin 1024 :=
  fun j => Interp.order (dists u k b n) ⟨j.val, by omega⟩

/-- The reciprocal weight of a nearest point. -/
theorem recip_at (u : FVec Ideal S4x8192x3 .f32) (k : FVec Ideal S4x1024x3 .f32) (b : Fin 4) (n : Fin 8192) (j : Fin 3) :
    recips (nearest (negDist u k)).1 (ix3 b n j) = Interp.recip (dists u k b n (first u k b n j)) := by
  rw [recips_at]
  unfold nearest
  rw [Interp.topK_fst_at _ _ (dists u k b n) b n (fun i => negDist_at u k b n i) j (show j.val < 1024 by omega), neg_neg]

/-- The features gathered for a nearest point. -/
theorem feature_at (u : FVec Ideal S4x8192x3 .f32) (k : FVec Ideal S4x1024x3 .f32) (f : FVec Ideal S4x128x1024 .f32)
    (b : Fin 4) (x : Fin 128) (n : Fin 8192) (j : Fin 3) :
    gathered f (places (nearest (negDist u k)).2) (ix4 b x n j) = f (ix3 b x (first u k b n j)) := by
  refine gathered_at f _ b x n j _ (places_at _ b n j _ ?_)
  unfold nearest
  exact Interp.topK_snd_at _ _ (dists u k b n) b n (fun i => negDist_at u k b n i) j (show j.val < 1024 by omega)

/-- The layer at an index: the mixed features. -/
theorem layer_at (u : FVec Ideal S4x8192x3 .f32) (k : FVec Ideal S4x1024x3 .f32) (p : FVec Ideal S4x64x8192 .f32)
    (f : FVec Ideal S4x128x1024 .f32) (w : FVec Ideal S128x192 .f32) (b : Fin 4) (o : Fin 128) (n : Fin 8192)
    (h : Interp.Nearest (dists u k b n) (first u k b n)) :
    layer u k p f w (ix3 b o n)
      = Interp.mix (dists u k b n) (fun x i => f (ix3 b x i)) (fun x => p (ix3 b x n)) (fun j => w (ix2 o j)) := by
  rw [h.mix_eq]
  unfold layer
  rw [linear_at]
  simp only [interpolated_at, weights_at, recip_at, feature_at]

/-- The normalisation at an index of a finite array with a finite gain: one multiplication and one addition from the sums. -/
theorem batchNorm_at (x : FVec Ideal S4x128x8192 .f32) (g β : FVec Ideal S128 .f32) (b : Fin 4) (o : Fin 128) (n : Fin 8192)
    (hx : ∀ b n, Interp.Finite (x (ix3 b o n))) (hg : Interp.Finite (g (ix1 o))) :
    batchNorm x g β (ix3 b o n)
      = Interp.affine (∑ b, ∑ n, x (ix3 b o n)) (∑ b, ∑ n, x (ix3 b o n) * x (ix3 b o n)) (g (ix1 o)) (β (ix1 o)) (x (ix3 b o n)) := by
  rw [Interp.affine_eq (fun b n => x (ix3 b o n)) hx _ _ hg b n]
  unfold batchNorm
  rw [normalised_at, variance_at]
  simp only [centred_at, mean_at]
  rfl

/-- The same for an array known by its values. -/
theorem batchNorm_of (x : FVec Ideal S4x128x8192 .f32) (g β : FVec Ideal S128 .f32) (y : Fin 4 → Fin 128 → Fin 8192 → EReal)
    (hxy : ∀ b o n, x (ix3 b o n) = y b o n) (hy : ∀ b o n, Interp.Finite (y b o n)) (hg : ∀ o, Interp.Finite (g (ix1 o)))
    (b : Fin 4) (o : Fin 128) (n : Fin 8192) :
    batchNorm x g β (ix3 b o n)
      = Interp.affine (∑ b, ∑ n, y b o n) (∑ b, ∑ n, y b o n * y b o n) (g (ix1 o)) (β (ix1 o)) (y b o n) := by
  rw [batchNorm_at x g β b o n (fun b n => by rw [hxy]; exact hy b o n) (hg o)]
  simp only [hxy]

end Cert.ReferenceIdeal.Stage

end
-- ==== Proof.Match.lean ====
/-
  The two results are equal under the precondition: the kernel's last contents and the reference's term, read at every index.
-/
module

public import proofs.«01_k».proof.Defs
public import proofs.«01_k».proof.Proof.KResult
public import proofs.«01_k».proof.Proof.PreRead
public import proofs.«01_k».proof.Proof.RefValue

@[expose] public section

set_option maxRecDepth 16384

noncomputable section

open Idealize.ShloMosaic Idealize.ShloMosaic.TcCoe Idealize.SL.Sem

namespace Cert.Match

open Cert.KernelIdeal (nD τ sig main_arg0 main_arg1 main_arg2 main_arg3 main_arg4 main_arg5 main_arg6 S4x8192x3 S4x1024x3 S4x64x8192 S4x128x1024 S128x192 S128 S4x128x8192)

/-- The reference's normalised layer of the kernel's arguments is the kernel's result. -/
theorem result_eq (m : (ℓ : Loc nD τ sig) → Buf (Elt Ideal) ℓ) (ρ : Dev nD → PrngReg)
    (hpre : Cert.Pre_KernelIdeal_distinct_finite m) (c : Dev nD) :
    Cert.ReferenceIdeal.Stage.batchNorm
      (Cert.ReferenceIdeal.Stage.layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6))
      = Cert.KernelIdeal.Gen.W4 m ρ c (Proc.devRef .tc Cert.KernelIdeal.main_v4) := by
  obtain ⟨h0, h2, h3, h4, h5⟩ := hpre c
  have near := Cert.Pre_distinct_finite.Read.nearest _ _ _ _ _ _ _ h0
  have f2 := Cert.Pre_distinct_finite.Read.finite2 _ _ _ _ _ _ _ h2
  have f3 := Cert.Pre_distinct_finite.Read.finite3 _ _ _ _ _ _ _ h3
  have f4 := Cert.Pre_distinct_finite.Read.finite4 _ _ _ _ _ _ _ h4
  have f5 := Cert.Pre_distinct_finite.Read.finite5 _ _ _ _ _ _ _ h5
  have hl : ∀ b o n, Cert.ReferenceIdeal.Stage.layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (ix3 b o n)
      = Cert.KernelIdeal.Value.input m c b o n := fun b o n =>
    Cert.ReferenceIdeal.Stage.layer_at _ _ _ _ _ b o n (near b n)
  have hf : ∀ b o n, Interp.Finite (Cert.KernelIdeal.Value.input m c b o n) := fun b o n =>
    (near b n).mix_finite (fun x i => f3 _) (fun x => f2 _) (fun j => f4 _)
  have hi : ∀ b o n, Cert.ReferenceIdeal.Stage.batchNorm
      (Cert.ReferenceIdeal.Stage.layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) (ix3 b o n)
      = (Cert.KernelIdeal.Gen.W4 m ρ c (Proc.devRef .tc Cert.KernelIdeal.main_v4) : FVec Ideal S4x128x8192 .f32) (ix3 b o n) := fun b o n =>
    (Cert.ReferenceIdeal.Stage.batchNorm_of _ _ _ (Cert.KernelIdeal.Value.input m c) hl hf (fun o => f5 _) b o n).trans
      (Cert.KernelIdeal.Value.result m ρ c b o n).symm
  refine funext (α := S4x128x8192.Idx) fun i => ?_
  have e : i = ix3 (i 0) (i 1) (i 2) := eq_ix3 i
  exact e ▸ hi (i 0) (i 1) (i 2)

end Cert.Match

end
-- ==== Proof.lean ====
/-
  The claim, put together: the frames of the three programs, that the idealization preserves the kernel, and that the
  idealized kernel and the reference compute the same result under the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.PreFacts
public import proofs.«01_k».proof.Proof.KRun
public import proofs.«01_k».proof.Proof.Match
public import Idealize.ShloMosaic.Lib.Claim
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were, and has no semaphore to leave raised. -/
theorem reference_frame : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- Run from memories agreeing on the arguments, under the precondition, the idealized kernel and the reference end with
    equal results. -/
theorem algebraic : Cert.algebraic_KernelIdeal_ReferenceIdeal_pre_distinct_finite := by
  pair_intro
  · run_from Cert.KernelIdeal.Run.run m g
  · run_from Cert.ReferenceIdeal.Value.run (F := Ideal) m' g'
    rw [Cert.ReferenceIdeal.Stage.res_eq]
    obtain ⟨e0, e1, e2, e3, e4, e5, e6⟩ := hagree c
    rw [e0, e1, e2, e3, e4, e5, e6]
    exact Cert.Match.result_eq m g hpre c

/-- Everything claimed. -/
theorem claim : Cert.Claim := ⟨Cert.Kernel.Gen.facts, Cert.KernelIdeal.Gen.facts, Cert.ReferenceIdeal.Gen.facts,
  Cert.Pre_distinct_finite.Side.facts,
  fun m ρ _ => Cert.Kernel.Gen.frame m ρ,
  fun m ρ _ => Cert.KernelIdeal.Gen.frame m ρ,
  fun m ρ _ => Cert.KernelIdeal.Gen.frame m ρ,
  reference_frame,
  fun m g _ => reference_frame m g trivial,
  trivial,
  algebraic⟩

end Cert.Proof

end
